-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Experts [hPre_in_experts : Cert.Pre_in_experts.Facts] (m : (ℓ : Loc Cert.Experts.nD Cert.Experts.τ Cert.Experts.sig) → Buf (Elt Bits) ℓ) : Prop :=
  ∀ c : Dev Cert.Experts.nD,
    (Cert.Pre_in_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_in_experts : Cert.Pre_in_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_in_experts [hPre_in_experts : Cert.Pre_in_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_in_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterReferenceIdeal (m : (ℓ : Loc Cert.RouterReferenceIdeal.nD Cert.RouterReferenceIdeal.τ Cert.RouterReferenceIdeal.sig) → Buf (Elt Ideal) ℓ) : Prop :=
  True

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] [hPre_in_experts : Cert.Pre_in_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_in_experts : Cert.Pre_in_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_in_experts [hExpertsReferenceIdeal : Cert.ExpertsReferenceIdeal.Facts] [hPre_in_experts : Cert.Pre_in_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_in_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal_on_live_rows [hExpertsIdeal : Cert.ExpertsIdeal.Facts] [hExpertsReferenceIdeal : Cert.ExpertsReferenceIdeal.Facts] [hPre_in_experts : Cert.Pre_in_experts.Facts] [hOn_live_rows : Cert.On_live_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![6144, 1024]⟩ : Shape).Idx, (Cert.On_live_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![6144, 1024]⟩ : Shape).Idx, (Cert.On_live_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) i = 1#1 → r.2.mem ((c.tc : Thread Cert.ExpertsReferenceIdeal.nD Cert.ExpertsReferenceIdeal.τ).loc Cert.ExpertsReferenceIdeal.main_v21) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Router_RouterIdeal : Prop :=
  IdealRules.bf16_pair.BufferStatement Cert.RouterIdeal.S2048x2x512 Cert.RouterIdeal.S2048x1x512
  ∧ IdealRules.bf16_pair.Statement Cert.RouterIdeal.S2048x2x512 Cert.RouterIdeal.S2048x1x512
  ∧ IdealRules.bf16_pack.Statement Cert.RouterIdeal.S2048x512

def algebraic_RouterIdeal_RouterReferenceIdeal [hRouterIdeal : Cert.RouterIdeal.Facts] [hRouterReferenceIdeal : Cert.RouterReferenceIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0_0)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v16) = v0 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hRouter : Cert.Router.Facts) (hRouterIdeal : Cert.RouterIdeal.Facts) (hRouterReferenceIdeal : Cert.RouterReferenceIdeal.Facts) (hPre_in_rows : Cert.Pre_in_rows.Facts) (hPre_in_experts : Cert.Pre_in_experts.Facts) (hOn_live_rows : Cert.On_live_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ quiescent_Experts (hExperts := hExperts) (hPre_in_experts := hPre_in_experts)
    ∧ quiescent_ExpertsIdeal (hExpertsIdeal := hExpertsIdeal) (hPre_in_experts := hPre_in_experts)
    ∧ quiescent_ExpertsReferenceIdeal (hExpertsReferenceIdeal := hExpertsReferenceIdeal)
    ∧ quiescent_ExpertsReferenceIdeal_pre_in_experts (hExpertsReferenceIdeal := hExpertsReferenceIdeal) (hPre_in_experts := hPre_in_experts)
    ∧ quiescent_Router (hRouter := hRouter)
    ∧ quiescent_RouterIdeal (hRouterIdeal := hRouterIdeal)
    ∧ quiescent_RouterReferenceIdeal (hRouterReferenceIdeal := hRouterReferenceIdeal)
    ∧ preserves_Kernel_KernelIdeal
    ∧ algebraic_KernelIdeal_ReferenceIdeal (hKernelIdeal := hKernelIdeal) (hReferenceIdeal := hReferenceIdeal) (hPre_in_rows := hPre_in_rows)
    ∧ preserves_Experts_ExpertsIdeal
    ∧ algebraic_ExpertsIdeal_ExpertsReferenceIdeal_on_live_rows (hExpertsIdeal := hExpertsIdeal) (hExpertsReferenceIdeal := hExpertsReferenceIdeal) (hPre_in_experts := hPre_in_experts) (hOn_live_rows := hOn_live_rows)
    ∧ preserves_Router_RouterIdeal
    ∧ algebraic_RouterIdeal_RouterReferenceIdeal (hRouterIdeal := hRouterIdeal) (hRouterReferenceIdeal := hRouterReferenceIdeal)
-- ==== On_live_rows.lean ====
abbrev S6144x512 : Shape := ⟨2, ![6144, 512]⟩
abbrev S8x7168x1024 : Shape := ⟨3, ![8, 7168, 1024]⟩
abbrev S8x1024x3584 : Shape := ⟨3, ![8, 1024, 3584]⟩
abbrev S6144x1 : Shape := ⟨2, ![6144, 1]⟩
abbrev S1x32 : Shape := ⟨2, ![1, 32]⟩
abbrev S1x24 : Shape := ⟨2, ![1, 24]⟩
abbrev S24 : Shape := ⟨1, ![24]⟩
abbrev S24x1x1 : Shape := ⟨3, ![24, 1, 1]⟩
abbrev S_ : Shape := ⟨0, ![]⟩
abbrev S24x256x1024 : Shape := ⟨3, ![24, 256, 1024]⟩
abbrev S6144x1024 : Shape := ⟨2, ![6144, 1024]⟩

class Facts : Prop where
  slices_S1x32_S1x24_0_0 : S1x32.Slices ![0, 0] S1x24
  shapeCasts_S1x24_S24 : S1x24.ShapeCasts S24
  bcast_S24_S24x1x1_0 : S24.BroadcastsInDim S24x1x1 (![0] : Fin 1 → Fin S24x1x1.rank)
  bcast_S_S24x1x1 : S_.BroadcastsInDim S24x1x1 (![] : Fin 0 → Fin S24x1x1.rank)
  bcast_S24x1x1_S24x256x1024_0_1_2 : S24x1x1.BroadcastsInDim S24x256x1024 (![0, 1, 2] : Fin 3 → Fin S24x256x1024.rank)
  shapeCasts_S24x256x1024_S6144x1024 : S24x256x1024.ShapeCasts S6144x1024

variable [Facts]

def fn {F : FTy → Type} [FloatOps F] (main_arg0 : IVec S6144x512 32) (main_arg1 : FVec F S8x7168x1024 .f32) (main_arg2 : FVec F S8x1024x3584 .f32) (main_arg3 : FVec F S6144x1 .f32) (main_arg4 : IVec S1x32 32) : IVec S6144x1024 1 :=
  let main_v0 : IVec S1x24 32 := (extractStridedSlice S1x24 ![0, 0] · slices_S1x32_S1x24_0_0) main_arg4
  let main_v1 : IVec S24 32 := shapeCast S24 main_v0 shapeCasts_S1x24_S24
  let main_v2 : IVec S24x1x1 32 := broadcastInDim S24x1x1 ![0] bcast_S24_S24x1x1_0 main_v1
  let main_c : IVec S_ 32 := constantI S_ 32 0#32
  let main_v3 : IVec S24x1x1 32 := broadcastInDim S24x1x1 ![] bcast_S_S24x1x1 main_c
  let main_v4 : IVec S24x1x1 1 := cmpi .sge main_v2 main_v3
  let main_v5 : IVec S24x256x1024 1 := broadcastInDim S24x256x1024 ![0, 1, 2] bcast_S24x1x1_S24x256x1024_0_1_2 main_v4
  let main_v6 : IVec S6144x1024 1 := shapeCast S6144x1024 main_v5 shapeCasts_S24x256x1024_S6144x1024
  main_v6
-- ==== Pre_in_experts.lean ====
abbrev S6144x512 : Shape := ⟨2, ![6144, 512]⟩
abbrev S8x7168x1024 : Shape := ⟨3, ![8, 7168, 1024]⟩
abbrev S8x1024x3584 : Shape := ⟨3, ![8, 1024, 3584]⟩
abbrev S6144x1 : Shape := ⟨2, ![6144, 1]⟩
abbrev S1x32 : Shape := ⟨2, ![1, 32]⟩
abbrev S1x24 : Shape := ⟨2, ![1, 24]⟩
abbrev S_ : Shape := ⟨0, ![]⟩

class Facts : Prop where
  slices_S1x32_S1x24_0_0 : S1x32.Slices ![0, 0] S1x24
  bcast_S_S1x24 : S_.BroadcastsInDim S1x24 (![] : Fin 0 → Fin S1x24.rank)

variable [Facts]

def fn {F : FTy → Type} [FloatOps F] (main_arg0 : IVec S6144x512 32) (main_arg1 : FVec F S8x7168x1024 .f32) (main_arg2 : FVec F S8x1024x3584 .f32) (main_arg3 : FVec F S6144x1 .f32) (main_arg4 : IVec S1x32 32) : IVec S1x24 1 :=
  let main_v0 : IVec S1x24 32 := (extractStridedSlice S1x24 ![0, 0] · slices_S1x32_S1x24_0_0) main_arg4
  let main_c : IVec S_ 32 := constantI S_ 32 8#32
  let main_v1 : IVec S1x24 32 := broadcastInDim S1x24 ![] bcast_S_S1x24 main_c
  let main_v2 : IVec S1x24 1 := cmpi .slt main_v0 main_v1
  main_v2
-- ==== Pre_in_rows.lean ====
abbrev S6144x1024 : Shape := ⟨2, ![6144, 1024]⟩
abbrev S2048x2 : Shape := ⟨2, ![2048, 2]⟩
abbrev S_ : Shape := ⟨0, ![]⟩

class Facts : Prop where
  bcast_S_S2048x2 : S_.BroadcastsInDim S2048x2 (![] : Fin 0 → Fin S2048x2.rank)

variable [Facts]

def fn {F : FTy → Type} [FloatOps F] (main_arg0 : FVec F S6144x1024 .f32) (main_arg1 : IVec S2048x2 32) : IVec S2048x2 1 :=
  let main_c : IVec S_ 32 := constantI S_ 32 0#32
  let main_v0 : IVec S2048x2 32 := broadcastInDim S2048x2 ![] bcast_S_S2048x2 main_c
  let main_v1 : IVec S2048x2 1 := cmpi .sge main_arg1 main_v0
  let main_c_0 : IVec S_ 32 := constantI S_ 32 6144#32
  let main_v2 : IVec S2048x2 32 := broadcastInDim S2048x2 ![] bcast_S_S2048x2 main_c_0
  let main_v3 : IVec S2048x2 1 := cmpi .slt main_arg1 main_v2
  let main_v4 : IVec S2048x2 1 := andi main_v1 main_v3
  main_v4
-- ==== Kernel.lean ====
abbrev S6144x1024 : Shape := ⟨2, ![6144, 1024]⟩
abbrev S2048x2 : Shape := ⟨2, ![2048, 2]⟩
abbrev S2048x1 : Shape := ⟨2, ![2048, 1]⟩
abbrev S2048 : Shape := ⟨1, ![2048]⟩
abbrev S6144x8x128 : Shape := ⟨3, ![6144, 8, 128]⟩
abbrev S2048x1024 : Shape := ⟨2, ![2048, 1024]⟩
abbrev S32 : Shape := ⟨1, ![32]⟩
abbrev S32x8x128 : Shape := ⟨3, ![32, 8, 128]⟩
abbrev S32x1024 : Shape := ⟨2, ![32, 1024]⟩
abbrev S_ : Shape := ⟨0, ![]⟩
abbrev S32x2x128 : Shape := ⟨3, ![32, 2, 128]⟩
abbrev S6144x2x128 : Shape := ⟨3, ![6144, 2, 128]⟩
abbrev S1x1x16 : Shape := ⟨3, ![1, 1, 16]⟩
abbrev S16 : Shape := ⟨1, ![16]⟩
abbrev S1x16 : Shape := ⟨2, ![1, 16]⟩

abbrev nBuf : Table → Nat
  | .hbm => 8
  | .local .scVector .vmem => 5
  | _ => 0

abbrev bufTy : (tb : Table) → Fin (nBuf tb) → BufTy
  | .hbm, ⟨0, _⟩ => ⟨S6144x1024, .f32⟩
  | .hbm, ⟨1, _⟩ => ⟨S2048x2, .i32⟩
  | .hbm, ⟨2, _⟩ => ⟨S2048x1, .i32⟩
  | .hbm, ⟨3, _⟩ => ⟨S2048, .i32⟩
  | .hbm, ⟨4, _⟩ => ⟨S2048x1, .i32⟩
  | .hbm, ⟨5, _⟩ => ⟨S2048, .i32⟩
  | .hbm, ⟨6, _⟩ => ⟨S6144x8x128, .f32⟩
  | .hbm, ⟨7, _⟩ => ⟨S2048x1024, .f32⟩
  | .local .scVector .vmem, ⟨0, _⟩ => ⟨S32, .i32⟩
  | .local .scVector .vmem, ⟨1, _⟩ => ⟨S32, .i32⟩
  | .local .scVector .vmem, ⟨2, _⟩ => ⟨S32x8x128, .f32⟩
  | .local .scVector .vmem, ⟨3, _⟩ => ⟨S32x8x128, .f32⟩
  | .local .scVector .vmem, ⟨4, _⟩ => ⟨S32x1024, .f32⟩
  | _, _ => ⟨S6144x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v4_scv : Ref sig .scVector := ⟨.hbm, 6, rfl⟩
abbrev main_v1_scv : Ref sig .scVector := ⟨.hbm, 3, rfl⟩
abbrev main_v3_scv : Ref sig .scVector := ⟨.hbm, 5, rfl⟩
abbrev main_v5_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  ![v3.toNat]
@[reducible] def k0_t1_loop : Scf.Loop 32 :=
  let c0_i32_142 : BitVec 32 := 0#32
  let c32_i32 : BitVec 32 := 32#32
  let v52 : BitVec 32 := Scalar.addi c0_i32_142 c32_i32
  let c1_i32 : BitVec 32 := 1#32
  ⟨c0_i32_142, v52, c1_i32⟩
def k0_off2 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v103 : Index := Scalar.indexCast arg12
  let c0_i32_293 : BitVec 32 := 0#32
  let v104 : Index := Scalar.indexCast c0_i32_293
  let c0 : Index := 0#32
  ![v103.toNat, 0, 0]
def k0_off3 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v112 : Index := Scalar.indexCast arg12
  let c0_296 : Index := 0#32
  ![v112.toNat, 0]
def k0_off4 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v116 : Index := Scalar.indexCast arg12
  let c0_i32_297 : BitVec 32 := 0#32
  let v117 : Index := Scalar.indexCast c0_i32_297
  let c16 : Index := 16#32
  ![v116.toNat, 0, 16]
def k0_off5 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v125 : Index := Scalar.indexCast arg12
  let c16_300 : Index := 16#32
  ![v125.toNat, 16]
def k0_off6 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v129 : Index := Scalar.indexCast arg12
  let c0_i32_301 : BitVec 32 := 0#32
  let v130 : Index := Scalar.indexCast c0_i32_301
  let c32 : Index := 32#32
  ![v129.toNat, 0, 32]
def k0_off7 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v138 : Index := Scalar.indexCast arg12
  let c32_304 : Index := 32#32
  ![v138.toNat, 32]
def k0_off8 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v142 : Index := Scalar.indexCast arg12
  let c0_i32_305 : BitVec 32 := 0#32
  let v143 : Index := Scalar.indexCast c0_i32_305
  let c48 : Index := 48#32
  ![v142.toNat, 0, 48]
def k0_off9 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v151 : Index := Scalar.indexCast arg12
  let c48_308 : Index := 48#32
  ![v151.toNat, 48]
def k0_off10 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v155 : Index := Scalar.indexCast arg12
  let c0_i32_309 : BitVec 32 := 0#32
  let v156 : Index := Scalar.indexCast c0_i32_309
  let c64 : Index := 64#32
  ![v155.toNat, 0, 64]
def k0_off11 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v164 : Index := Scalar.indexCast arg12
  let c64_312 : Index := 64#32
  ![v164.toNat, 64]
def k0_off12 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v168 : Index := Scalar.indexCast arg12
  let c0_i32_313 : BitVec 32 := 0#32
  let v169 : Index := Scalar.indexCast c0_i32_313
  let c80 : Index := 80#32
  ![v168.toNat, 0, 80]
def k0_off13 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v177 : Index := Scalar.indexCast arg12
  let c80_316 : Index := 80#32
  ![v177.toNat, 80]
def k0_off14 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v181 : Index := Scalar.indexCast arg12
  let c0_i32_317 : BitVec 32 := 0#32
  let v182 : Index := Scalar.indexCast c0_i32_317
  let c96 : Index := 96#32
  ![v181.toNat, 0, 96]
def k0_off15 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v190 : Index := Scalar.indexCast arg12
  let c96_320 : Index := 96#32
  ![v190.toNat, 96]
def k0_off16 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v194 : Index := Scalar.indexCast arg12
  let c0_i32_321 : BitVec 32 := 0#32
  let v195 : Index := Scalar.indexCast c0_i32_321
  let c112 : Index := 112#32
  ![v194.toNat, 0, 112]
def k0_off17 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v203 : Index := Scalar.indexCast arg12
  let c112_324 : Index := 112#32
  ![v203.toNat, 112]
def k0_off18 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v207 : Index := Scalar.indexCast arg12
  let c1_i32_325 : BitVec 32 := 1#32
  let v208 : Index := Scalar.indexCast c1_i32_325
  let c0_326 : Index := 0#32
  ![v207.toNat, 1, 0]
def k0_off19 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v216 : Index := Scalar.indexCast arg12
  let c128 : Index := 128#32
  ![v216.toNat, 128]
def k0_off20 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v220 : Index := Scalar.indexCast arg12
  let c1_i32_329 : BitVec 32 := 1#32
  let v221 : Index := Scalar.indexCast c1_i32_329
  let c16_330 : Index := 16#32
  ![v220.toNat, 1, 16]
def k0_off21 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v229 : Index := Scalar.indexCast arg12
  let c144 : Index := 144#32
  ![v229.toNat, 144]
def k0_off22 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v233 : Index := Scalar.indexCast arg12
  let c1_i32_333 : BitVec 32 := 1#32
  let v234 : Index := Scalar.indexCast c1_i32_333
  let c32_334 : Index := 32#32
  ![v233.toNat, 1, 32]
def k0_off23 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v242 : Index := Scalar.indexCast arg12
  let c160 : Index := 160#32
  ![v242.toNat, 160]
def k0_off24 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v246 : Index := Scalar.indexCast arg12
  let c1_i32_337 : BitVec 32 := 1#32
  let v247 : Index := Scalar.indexCast c1_i32_337
  let c48_338 : Index := 48#32
  ![v246.toNat, 1, 48]
def k0_off25 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v255 : Index := Scalar.indexCast arg12
  let c176 : Index := 176#32
  ![v255.toNat, 176]
def k0_off26 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v259 : Index := Scalar.indexCast arg12
  let c1_i32_341 : BitVec 32 := 1#32
  let v260 : Index := Scalar.indexCast c1_i32_341
  let c64_342 : Index := 64#32
  ![v259.toNat, 1, 64]
def k0_off27 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v268 : Index := Scalar.indexCast arg12
  let c192 : Index := 192#32
  ![v268.toNat, 192]
def k0_off28 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v272 : Index := Scalar.indexCast arg12
  let c1_i32_345 : BitVec 32 := 1#32
  let v273 : Index := Scalar.indexCast c1_i32_345
  let c80_346 : Index := 80#32
  ![v272.toNat, 1, 80]
def k0_off29 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v281 : Index := Scalar.indexCast arg12
  let c208 : Index := 208#32
  ![v281.toNat, 208]
def k0_off30 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v285 : Index := Scalar.indexCast arg12
  let c1_i32_349 : BitVec 32 := 1#32
  let v286 : Index := Scalar.indexCast c1_i32_349
  let c96_350 : Index := 96#32
  ![v285.toNat, 1, 96]
def k0_off31 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v294 : Index := Scalar.indexCast arg12
  let c224 : Index := 224#32
  ![v294.toNat, 224]
def k0_off32 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v298 : Index := Scalar.indexCast arg12
  let c1_i32_353 : BitVec 32 := 1#32
  let v299 : Index := Scalar.indexCast c1_i32_353
  let c112_354 : Index := 112#32
  ![v298.toNat, 1, 112]
def k0_off33 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v307 : Index := Scalar.indexCast arg12
  let c240 : Index := 240#32
  ![v307.toNat, 240]
def k0_off34 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v311 : Index := Scalar.indexCast arg12
  let c2_i32_357 : BitVec 32 := 2#32
  let v312 : Index := Scalar.indexCast c2_i32_357
  let c0_358 : Index := 0#32
  ![v311.toNat, 2, 0]
def k0_off35 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v320 : Index := Scalar.indexCast arg12
  let c256 : Index := 256#32
  ![v320.toNat, 256]
def k0_off36 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v324 : Index := Scalar.indexCast arg12
  let c2_i32_361 : BitVec 32 := 2#32
  let v325 : Index := Scalar.indexCast c2_i32_361
  let c16_362 : Index := 16#32
  ![v324.toNat, 2, 16]
def k0_off37 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v333 : Index := Scalar.indexCast arg12
  let c272 : Index := 272#32
  ![v333.toNat, 272]
def k0_off38 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v337 : Index := Scalar.indexCast arg12
  let c2_i32_365 : BitVec 32 := 2#32
  let v338 : Index := Scalar.indexCast c2_i32_365
  let c32_366 : Index := 32#32
  ![v337.toNat, 2, 32]
def k0_off39 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v346 : Index := Scalar.indexCast arg12
  let c288 : Index := 288#32
  ![v346.toNat, 288]
def k0_off40 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v350 : Index := Scalar.indexCast arg12
  let c2_i32_369 : BitVec 32 := 2#32
  let v351 : Index := Scalar.indexCast c2_i32_369
  let c48_370 : Index := 48#32
  ![v350.toNat, 2, 48]
def k0_off41 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v359 : Index := Scalar.indexCast arg12
  let c304 : Index := 304#32
  ![v359.toNat, 304]
def k0_off42 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v363 : Index := Scalar.indexCast arg12
  let c2_i32_373 : BitVec 32 := 2#32
  let v364 : Index := Scalar.indexCast c2_i32_373
  let c64_374 : Index := 64#32
  ![v363.toNat, 2, 64]
def k0_off43 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v372 : Index := Scalar.indexCast arg12
  let c320 : Index := 320#32
  ![v372.toNat, 320]
def k0_off44 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v376 : Index := Scalar.indexCast arg12
  let c2_i32_377 : BitVec 32 := 2#32
  let v377 : Index := Scalar.indexCast c2_i32_377
  let c80_378 : Index := 80#32
  ![v376.toNat, 2, 80]
def k0_off45 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v385 : Index := Scalar.indexCast arg12
  let c336 : Index := 336#32
  ![v385.toNat, 336]
def k0_off46 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v389 : Index := Scalar.indexCast arg12
  let c2_i32_381 : BitVec 32 := 2#32
  let v390 : Index := Scalar.indexCast c2_i32_381
  let c96_382 : Index := 96#32
  ![v389.toNat, 2, 96]
def k0_off47 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v398 : Index := Scalar.indexCast arg12
  let c352 : Index := 352#32
  ![v398.toNat, 352]
def k0_off48 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v402 : Index := Scalar.indexCast arg12
  let c2_i32_385 : BitVec 32 := 2#32
  let v403 : Index := Scalar.indexCast c2_i32_385
  let c112_386 : Index := 112#32
  ![v402.toNat, 2, 112]
def k0_off49 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v411 : Index := Scalar.indexCast arg12
  let c368 : Index := 368#32
  ![v411.toNat, 368]
def k0_off50 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v415 : Index := Scalar.indexCast arg12
  let c3_i32 : BitVec 32 := 3#32
  let v416 : Index := Scalar.indexCast c3_i32
  let c0_389 : Index := 0#32
  ![v415.toNat, 3, 0]
def k0_off51 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v424 : Index := Scalar.indexCast arg12
  let c384 : Index := 384#32
  ![v424.toNat, 384]
def k0_off52 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v428 : Index := Scalar.indexCast arg12
  let c3_i32_392 : BitVec 32 := 3#32
  let v429 : Index := Scalar.indexCast c3_i32_392
  let c16_393 : Index := 16#32
  ![v428.toNat, 3, 16]
def k0_off53 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v437 : Index := Scalar.indexCast arg12
  let c400 : Index := 400#32
  ![v437.toNat, 400]
def k0_off54 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v441 : Index := Scalar.indexCast arg12
  let c3_i32_396 : BitVec 32 := 3#32
  let v442 : Index := Scalar.indexCast c3_i32_396
  let c32_397 : Index := 32#32
  ![v441.toNat, 3, 32]
def k0_off55 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v450 : Index := Scalar.indexCast arg12
  let c416 : Index := 416#32
  ![v450.toNat, 416]
def k0_off56 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v454 : Index := Scalar.indexCast arg12
  let c3_i32_400 : BitVec 32 := 3#32
  let v455 : Index := Scalar.indexCast c3_i32_400
  let c48_401 : Index := 48#32
  ![v454.toNat, 3, 48]
def k0_off57 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v463 : Index := Scalar.indexCast arg12
  let c432 : Index := 432#32
  ![v463.toNat, 432]
def k0_off58 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v467 : Index := Scalar.indexCast arg12
  let c3_i32_404 : BitVec 32 := 3#32
  let v468 : Index := Scalar.indexCast c3_i32_404
  let c64_405 : Index := 64#32
  ![v467.toNat, 3, 64]
def k0_off59 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v476 : Index := Scalar.indexCast arg12
  let c448 : Index := 448#32
  ![v476.toNat, 448]
def k0_off60 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v480 : Index := Scalar.indexCast arg12
  let c3_i32_408 : BitVec 32 := 3#32
  let v481 : Index := Scalar.indexCast c3_i32_408
  let c80_409 : Index := 80#32
  ![v480.toNat, 3, 80]
def k0_off61 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v489 : Index := Scalar.indexCast arg12
  let c464 : Index := 464#32
  ![v489.toNat, 464]
def k0_off62 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v493 : Index := Scalar.indexCast arg12
  let c3_i32_412 : BitVec 32 := 3#32
  let v494 : Index := Scalar.indexCast c3_i32_412
  let c96_413 : Index := 96#32
  ![v493.toNat, 3, 96]
def k0_off63 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v502 : Index := Scalar.indexCast arg12
  let c480 : Index := 480#32
  ![v502.toNat, 480]
def k0_off64 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v506 : Index := Scalar.indexCast arg12
  let c3_i32_416 : BitVec 32 := 3#32
  let v507 : Index := Scalar.indexCast c3_i32_416
  let c112_417 : Index := 112#32
  ![v506.toNat, 3, 112]
def k0_off65 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v515 : Index := Scalar.indexCast arg12
  let c496 : Index := 496#32
  ![v515.toNat, 496]
def k0_off66 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v519 : Index := Scalar.indexCast arg12
  let c4_i32_420 : BitVec 32 := 4#32
  let v520 : Index := Scalar.indexCast c4_i32_420
  let c0_421 : Index := 0#32
  ![v519.toNat, 4, 0]
def k0_off67 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v528 : Index := Scalar.indexCast arg12
  let c512 : Index := 512#32
  ![v528.toNat, 512]
def k0_off68 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v532 : Index := Scalar.indexCast arg12
  let c4_i32_424 : BitVec 32 := 4#32
  let v533 : Index := Scalar.indexCast c4_i32_424
  let c16_425 : Index := 16#32
  ![v532.toNat, 4, 16]
def k0_off69 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v541 : Index := Scalar.indexCast arg12
  let c528 : Index := 528#32
  ![v541.toNat, 528]
def k0_off70 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v545 : Index := Scalar.indexCast arg12
  let c4_i32_428 : BitVec 32 := 4#32
  let v546 : Index := Scalar.indexCast c4_i32_428
  let c32_429 : Index := 32#32
  ![v545.toNat, 4, 32]
def k0_off71 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v554 : Index := Scalar.indexCast arg12
  let c544 : Index := 544#32
  ![v554.toNat, 544]
def k0_off72 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v558 : Index := Scalar.indexCast arg12
  let c4_i32_432 : BitVec 32 := 4#32
  let v559 : Index := Scalar.indexCast c4_i32_432
  let c48_433 : Index := 48#32
  ![v558.toNat, 4, 48]
def k0_off73 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v567 : Index := Scalar.indexCast arg12
  let c560 : Index := 560#32
  ![v567.toNat, 560]
def k0_off74 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v571 : Index := Scalar.indexCast arg12
  let c4_i32_436 : BitVec 32 := 4#32
  let v572 : Index := Scalar.indexCast c4_i32_436
  let c64_437 : Index := 64#32
  ![v571.toNat, 4, 64]
def k0_off75 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v580 : Index := Scalar.indexCast arg12
  let c576 : Index := 576#32
  ![v580.toNat, 576]
def k0_off76 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v584 : Index := Scalar.indexCast arg12
  let c4_i32_440 : BitVec 32 := 4#32
  let v585 : Index := Scalar.indexCast c4_i32_440
  let c80_441 : Index := 80#32
  ![v584.toNat, 4, 80]
def k0_off77 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v593 : Index := Scalar.indexCast arg12
  let c592 : Index := 592#32
  ![v593.toNat, 592]
def k0_off78 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v597 : Index := Scalar.indexCast arg12
  let c4_i32_444 : BitVec 32 := 4#32
  let v598 : Index := Scalar.indexCast c4_i32_444
  let c96_445 : Index := 96#32
  ![v597.toNat, 4, 96]
def k0_off79 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v606 : Index := Scalar.indexCast arg12
  let c608 : Index := 608#32
  ![v606.toNat, 608]
def k0_off80 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v610 : Index := Scalar.indexCast arg12
  let c4_i32_448 : BitVec 32 := 4#32
  let v611 : Index := Scalar.indexCast c4_i32_448
  let c112_449 : Index := 112#32
  ![v610.toNat, 4, 112]
def k0_off81 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v619 : Index := Scalar.indexCast arg12
  let c624 : Index := 624#32
  ![v619.toNat, 624]
def k0_off82 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v623 : Index := Scalar.indexCast arg12
  let c5_i32 : BitVec 32 := 5#32
  let v624 : Index := Scalar.indexCast c5_i32
  let c0_452 : Index := 0#32
  ![v623.toNat, 5, 0]
def k0_off83 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v632 : Index := Scalar.indexCast arg12
  let c640 : Index := 640#32
  ![v632.toNat, 640]
def k0_off84 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v636 : Index := Scalar.indexCast arg12
  let c5_i32_455 : BitVec 32 := 5#32
  let v637 : Index := Scalar.indexCast c5_i32_455
  let c16_456 : Index := 16#32
  ![v636.toNat, 5, 16]
def k0_off85 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v645 : Index := Scalar.indexCast arg12
  let c656 : Index := 656#32
  ![v645.toNat, 656]
def k0_off86 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v649 : Index := Scalar.indexCast arg12
  let c5_i32_459 : BitVec 32 := 5#32
  let v650 : Index := Scalar.indexCast c5_i32_459
  let c32_460 : Index := 32#32
  ![v649.toNat, 5, 32]
def k0_off87 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v658 : Index := Scalar.indexCast arg12
  let c672 : Index := 672#32
  ![v658.toNat, 672]
def k0_off88 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v662 : Index := Scalar.indexCast arg12
  let c5_i32_463 : BitVec 32 := 5#32
  let v663 : Index := Scalar.indexCast c5_i32_463
  let c48_464 : Index := 48#32
  ![v662.toNat, 5, 48]
def k0_off89 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v671 : Index := Scalar.indexCast arg12
  let c688 : Index := 688#32
  ![v671.toNat, 688]
def k0_off90 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v675 : Index := Scalar.indexCast arg12
  let c5_i32_467 : BitVec 32 := 5#32
  let v676 : Index := Scalar.indexCast c5_i32_467
  let c64_468 : Index := 64#32
  ![v675.toNat, 5, 64]
def k0_off91 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v684 : Index := Scalar.indexCast arg12
  let c704 : Index := 704#32
  ![v684.toNat, 704]
def k0_off92 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v688 : Index := Scalar.indexCast arg12
  let c5_i32_471 : BitVec 32 := 5#32
  let v689 : Index := Scalar.indexCast c5_i32_471
  let c80_472 : Index := 80#32
  ![v688.toNat, 5, 80]
def k0_off93 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v697 : Index := Scalar.indexCast arg12
  let c720 : Index := 720#32
  ![v697.toNat, 720]
def k0_off94 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v701 : Index := Scalar.indexCast arg12
  let c5_i32_475 : BitVec 32 := 5#32
  let v702 : Index := Scalar.indexCast c5_i32_475
  let c96_476 : Index := 96#32
  ![v701.toNat, 5, 96]
def k0_off95 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v710 : Index := Scalar.indexCast arg12
  let c736 : Index := 736#32
  ![v710.toNat, 736]
def k0_off96 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v714 : Index := Scalar.indexCast arg12
  let c5_i32_479 : BitVec 32 := 5#32
  let v715 : Index := Scalar.indexCast c5_i32_479
  let c112_480 : Index := 112#32
  ![v714.toNat, 5, 112]
def k0_off97 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v723 : Index := Scalar.indexCast arg12
  let c752 : Index := 752#32
  ![v723.toNat, 752]
def k0_off98 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v727 : Index := Scalar.indexCast arg12
  let c6_i32_483 : BitVec 32 := 6#32
  let v728 : Index := Scalar.indexCast c6_i32_483
  let c0_484 : Index := 0#32
  ![v727.toNat, 6, 0]
def k0_off99 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v736 : Index := Scalar.indexCast arg12
  let c768 : Index := 768#32
  ![v736.toNat, 768]
def k0_off100 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v740 : Index := Scalar.indexCast arg12
  let c6_i32_487 : BitVec 32 := 6#32
  let v741 : Index := Scalar.indexCast c6_i32_487
  let c16_488 : Index := 16#32
  ![v740.toNat, 6, 16]
def k0_off101 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v749 : Index := Scalar.indexCast arg12
  let c784 : Index := 784#32
  ![v749.toNat, 784]
def k0_off102 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v753 : Index := Scalar.indexCast arg12
  let c6_i32_491 : BitVec 32 := 6#32
  let v754 : Index := Scalar.indexCast c6_i32_491
  let c32_492 : Index := 32#32
  ![v753.toNat, 6, 32]
def k0_off103 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v762 : Index := Scalar.indexCast arg12
  let c800 : Index := 800#32
  ![v762.toNat, 800]
def k0_off104 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v766 : Index := Scalar.indexCast arg12
  let c6_i32_495 : BitVec 32 := 6#32
  let v767 : Index := Scalar.indexCast c6_i32_495
  let c48_496 : Index := 48#32
  ![v766.toNat, 6, 48]
def k0_off105 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v775 : Index := Scalar.indexCast arg12
  let c816 : Index := 816#32
  ![v775.toNat, 816]
def k0_off106 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v779 : Index := Scalar.indexCast arg12
  let c6_i32_499 : BitVec 32 := 6#32
  let v780 : Index := Scalar.indexCast c6_i32_499
  let c64_500 : Index := 64#32
  ![v779.toNat, 6, 64]
def k0_off107 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v788 : Index := Scalar.indexCast arg12
  let c832 : Index := 832#32
  ![v788.toNat, 832]
def k0_off108 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v792 : Index := Scalar.indexCast arg12
  let c6_i32_503 : BitVec 32 := 6#32
  let v793 : Index := Scalar.indexCast c6_i32_503
  let c80_504 : Index := 80#32
  ![v792.toNat, 6, 80]
def k0_off109 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v801 : Index := Scalar.indexCast arg12
  let c848 : Index := 848#32
  ![v801.toNat, 848]
def k0_off110 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v805 : Index := Scalar.indexCast arg12
  let c6_i32_507 : BitVec 32 := 6#32
  let v806 : Index := Scalar.indexCast c6_i32_507
  let c96_508 : Index := 96#32
  ![v805.toNat, 6, 96]
def k0_off111 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v814 : Index := Scalar.indexCast arg12
  let c864 : Index := 864#32
  ![v814.toNat, 864]
def k0_off112 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v818 : Index := Scalar.indexCast arg12
  let c6_i32_511 : BitVec 32 := 6#32
  let v819 : Index := Scalar.indexCast c6_i32_511
  let c112_512 : Index := 112#32
  ![v818.toNat, 6, 112]
def k0_off113 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v827 : Index := Scalar.indexCast arg12
  let c880 : Index := 880#32
  ![v827.toNat, 880]
def k0_off114 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v831 : Index := Scalar.indexCast arg12
  let c7_i32 : BitVec 32 := 7#32
  let v832 : Index := Scalar.indexCast c7_i32
  let c0_515 : Index := 0#32
  ![v831.toNat, 7, 0]
def k0_off115 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v840 : Index := Scalar.indexCast arg12
  let c896 : Index := 896#32
  ![v840.toNat, 896]
def k0_off116 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v844 : Index := Scalar.indexCast arg12
  let c7_i32_518 : BitVec 32 := 7#32
  let v845 : Index := Scalar.indexCast c7_i32_518
  let c16_519 : Index := 16#32
  ![v844.toNat, 7, 16]
def k0_off117 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v853 : Index := Scalar.indexCast arg12
  let c912 : Index := 912#32
  ![v853.toNat, 912]
def k0_off118 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v857 : Index := Scalar.indexCast arg12
  let c7_i32_522 : BitVec 32 := 7#32
  let v858 : Index := Scalar.indexCast c7_i32_522
  let c32_523 : Index := 32#32
  ![v857.toNat, 7, 32]
def k0_off119 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v866 : Index := Scalar.indexCast arg12
  let c928 : Index := 928#32
  ![v866.toNat, 928]
def k0_off120 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v870 : Index := Scalar.indexCast arg12
  let c7_i32_526 : BitVec 32 := 7#32
  let v871 : Index := Scalar.indexCast c7_i32_526
  let c48_527 : Index := 48#32
  ![v870.toNat, 7, 48]
def k0_off121 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v879 : Index := Scalar.indexCast arg12
  let c944 : Index := 944#32
  ![v879.toNat, 944]
def k0_off122 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v883 : Index := Scalar.indexCast arg12
  let c7_i32_530 : BitVec 32 := 7#32
  let v884 : Index := Scalar.indexCast c7_i32_530
  let c64_531 : Index := 64#32
  ![v883.toNat, 7, 64]
def k0_off123 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v892 : Index := Scalar.indexCast arg12
  let c960 : Index := 960#32
  ![v892.toNat, 960]
def k0_off124 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v896 : Index := Scalar.indexCast arg12
  let c7_i32_534 : BitVec 32 := 7#32
  let v897 : Index := Scalar.indexCast c7_i32_534
  let c80_535 : Index := 80#32
  ![v896.toNat, 7, 80]
def k0_off125 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v905 : Index := Scalar.indexCast arg12
  let c976 : Index := 976#32
  ![v905.toNat, 976]
def k0_off126 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v909 : Index := Scalar.indexCast arg12
  let c7_i32_538 : BitVec 32 := 7#32
  let v910 : Index := Scalar.indexCast c7_i32_538
  let c96_539 : Index := 96#32
  ![v909.toNat, 7, 96]
def k0_off127 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v918 : Index := Scalar.indexCast arg12
  let c992 : Index := 992#32
  ![v918.toNat, 992]
def k0_off128 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v922 : Index := Scalar.indexCast arg12
  let c7_i32_542 : BitVec 32 := 7#32
  let v923 : Index := Scalar.indexCast c7_i32_542
  let c112_543 : Index := 112#32
  ![v922.toNat, 7, 112]
def k0_off129 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let v931 : Index := Scalar.indexCast arg12
  let c1008 : Index := 1008#32
  ![v931.toNat, 1008]
def k0_off130 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_293_r2 : BitVec 32 := 0#32
  ![v3.toNat, 0]
@[reducible] def k0_t2_loop : Scf.Loop 32 :=
  let c0_i32_289 : BitVec 32 := 0#32
  let c32_i32_290 : BitVec 32 := 32#32
  let v102 : BitVec 32 := Scalar.addi c0_i32_289 c32_i32_290
  let c1_i32_291 : BitVec 32 := 1#32
  ⟨c0_i32_289, v102, c1_i32_291⟩
def k0_off131 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v103 : Index := Scalar.indexCast arg12
  let c0_i32_293 : BitVec 32 := 0#32
  let v104 : Index := Scalar.indexCast c0_i32_293
  let c0 : Index := 0#32
  ![v103.toNat, 0, 0]
def k0_off132 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v112 : Index := Scalar.indexCast arg12
  let c0_296 : Index := 0#32
  ![v112.toNat, 0]
def k0_off133 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v116 : Index := Scalar.indexCast arg12
  let c0_i32_297 : BitVec 32 := 0#32
  let v117 : Index := Scalar.indexCast c0_i32_297
  let c16 : Index := 16#32
  ![v116.toNat, 0, 16]
def k0_off134 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v125 : Index := Scalar.indexCast arg12
  let c16_300 : Index := 16#32
  ![v125.toNat, 16]
def k0_off135 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v129 : Index := Scalar.indexCast arg12
  let c0_i32_301 : BitVec 32 := 0#32
  let v130 : Index := Scalar.indexCast c0_i32_301
  let c32 : Index := 32#32
  ![v129.toNat, 0, 32]
def k0_off136 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v138 : Index := Scalar.indexCast arg12
  let c32_304 : Index := 32#32
  ![v138.toNat, 32]
def k0_off137 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v142 : Index := Scalar.indexCast arg12
  let c0_i32_305 : BitVec 32 := 0#32
  let v143 : Index := Scalar.indexCast c0_i32_305
  let c48 : Index := 48#32
  ![v142.toNat, 0, 48]
def k0_off138 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v151 : Index := Scalar.indexCast arg12
  let c48_308 : Index := 48#32
  ![v151.toNat, 48]
def k0_off139 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v155 : Index := Scalar.indexCast arg12
  let c0_i32_309 : BitVec 32 := 0#32
  let v156 : Index := Scalar.indexCast c0_i32_309
  let c64 : Index := 64#32
  ![v155.toNat, 0, 64]
def k0_off140 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v164 : Index := Scalar.indexCast arg12
  let c64_312 : Index := 64#32
  ![v164.toNat, 64]
def k0_off141 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v168 : Index := Scalar.indexCast arg12
  let c0_i32_313 : BitVec 32 := 0#32
  let v169 : Index := Scalar.indexCast c0_i32_313
  let c80 : Index := 80#32
  ![v168.toNat, 0, 80]
def k0_off142 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v177 : Index := Scalar.indexCast arg12
  let c80_316 : Index := 80#32
  ![v177.toNat, 80]
def k0_off143 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v181 : Index := Scalar.indexCast arg12
  let c0_i32_317 : BitVec 32 := 0#32
  let v182 : Index := Scalar.indexCast c0_i32_317
  let c96 : Index := 96#32
  ![v181.toNat, 0, 96]
def k0_off144 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v190 : Index := Scalar.indexCast arg12
  let c96_320 : Index := 96#32
  ![v190.toNat, 96]
def k0_off145 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v194 : Index := Scalar.indexCast arg12
  let c0_i32_321 : BitVec 32 := 0#32
  let v195 : Index := Scalar.indexCast c0_i32_321
  let c112 : Index := 112#32
  ![v194.toNat, 0, 112]
def k0_off146 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v203 : Index := Scalar.indexCast arg12
  let c112_324 : Index := 112#32
  ![v203.toNat, 112]
def k0_off147 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v207 : Index := Scalar.indexCast arg12
  let c1_i32_325 : BitVec 32 := 1#32
  let v208 : Index := Scalar.indexCast c1_i32_325
  let c0_326 : Index := 0#32
  ![v207.toNat, 1, 0]
def k0_off148 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v216 : Index := Scalar.indexCast arg12
  let c128 : Index := 128#32
  ![v216.toNat, 128]
def k0_off149 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v220 : Index := Scalar.indexCast arg12
  let c1_i32_329 : BitVec 32 := 1#32
  let v221 : Index := Scalar.indexCast c1_i32_329
  let c16_330 : Index := 16#32
  ![v220.toNat, 1, 16]
def k0_off150 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v229 : Index := Scalar.indexCast arg12
  let c144 : Index := 144#32
  ![v229.toNat, 144]
def k0_off151 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v233 : Index := Scalar.indexCast arg12
  let c1_i32_333 : BitVec 32 := 1#32
  let v234 : Index := Scalar.indexCast c1_i32_333
  let c32_334 : Index := 32#32
  ![v233.toNat, 1, 32]
def k0_off152 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v242 : Index := Scalar.indexCast arg12
  let c160 : Index := 160#32
  ![v242.toNat, 160]
def k0_off153 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v246 : Index := Scalar.indexCast arg12
  let c1_i32_337 : BitVec 32 := 1#32
  let v247 : Index := Scalar.indexCast c1_i32_337
  let c48_338 : Index := 48#32
  ![v246.toNat, 1, 48]
def k0_off154 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v255 : Index := Scalar.indexCast arg12
  let c176 : Index := 176#32
  ![v255.toNat, 176]
def k0_off155 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v259 : Index := Scalar.indexCast arg12
  let c1_i32_341 : BitVec 32 := 1#32
  let v260 : Index := Scalar.indexCast c1_i32_341
  let c64_342 : Index := 64#32
  ![v259.toNat, 1, 64]
def k0_off156 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v268 : Index := Scalar.indexCast arg12
  let c192 : Index := 192#32
  ![v268.toNat, 192]
def k0_off157 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v272 : Index := Scalar.indexCast arg12
  let c1_i32_345 : BitVec 32 := 1#32
  let v273 : Index := Scalar.indexCast c1_i32_345
  let c80_346 : Index := 80#32
  ![v272.toNat, 1, 80]
def k0_off158 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v281 : Index := Scalar.indexCast arg12
  let c208 : Index := 208#32
  ![v281.toNat, 208]
def k0_off159 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v285 : Index := Scalar.indexCast arg12
  let c1_i32_349 : BitVec 32 := 1#32
  let v286 : Index := Scalar.indexCast c1_i32_349
  let c96_350 : Index := 96#32
  ![v285.toNat, 1, 96]
def k0_off160 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v294 : Index := Scalar.indexCast arg12
  let c224 : Index := 224#32
  ![v294.toNat, 224]
def k0_off161 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v298 : Index := Scalar.indexCast arg12
  let c1_i32_353 : BitVec 32 := 1#32
  let v299 : Index := Scalar.indexCast c1_i32_353
  let c112_354 : Index := 112#32
  ![v298.toNat, 1, 112]
def k0_off162 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v307 : Index := Scalar.indexCast arg12
  let c240 : Index := 240#32
  ![v307.toNat, 240]
def k0_off163 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v311 : Index := Scalar.indexCast arg12
  let c2_i32_357 : BitVec 32 := 2#32
  let v312 : Index := Scalar.indexCast c2_i32_357
  let c0_358 : Index := 0#32
  ![v311.toNat, 2, 0]
def k0_off164 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v320 : Index := Scalar.indexCast arg12
  let c256 : Index := 256#32
  ![v320.toNat, 256]
def k0_off165 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v324 : Index := Scalar.indexCast arg12
  let c2_i32_361 : BitVec 32 := 2#32
  let v325 : Index := Scalar.indexCast c2_i32_361
  let c16_362 : Index := 16#32
  ![v324.toNat, 2, 16]
def k0_off166 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v333 : Index := Scalar.indexCast arg12
  let c272 : Index := 272#32
  ![v333.toNat, 272]
def k0_off167 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v337 : Index := Scalar.indexCast arg12
  let c2_i32_365 : BitVec 32 := 2#32
  let v338 : Index := Scalar.indexCast c2_i32_365
  let c32_366 : Index := 32#32
  ![v337.toNat, 2, 32]
def k0_off168 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v346 : Index := Scalar.indexCast arg12
  let c288 : Index := 288#32
  ![v346.toNat, 288]
def k0_off169 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v350 : Index := Scalar.indexCast arg12
  let c2_i32_369 : BitVec 32 := 2#32
  let v351 : Index := Scalar.indexCast c2_i32_369
  let c48_370 : Index := 48#32
  ![v350.toNat, 2, 48]
def k0_off170 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v359 : Index := Scalar.indexCast arg12
  let c304 : Index := 304#32
  ![v359.toNat, 304]
def k0_off171 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v363 : Index := Scalar.indexCast arg12
  let c2_i32_373 : BitVec 32 := 2#32
  let v364 : Index := Scalar.indexCast c2_i32_373
  let c64_374 : Index := 64#32
  ![v363.toNat, 2, 64]
def k0_off172 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v372 : Index := Scalar.indexCast arg12
  let c320 : Index := 320#32
  ![v372.toNat, 320]
def k0_off173 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v376 : Index := Scalar.indexCast arg12
  let c2_i32_377 : BitVec 32 := 2#32
  let v377 : Index := Scalar.indexCast c2_i32_377
  let c80_378 : Index := 80#32
  ![v376.toNat, 2, 80]
def k0_off174 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v385 : Index := Scalar.indexCast arg12
  let c336 : Index := 336#32
  ![v385.toNat, 336]
def k0_off175 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v389 : Index := Scalar.indexCast arg12
  let c2_i32_381 : BitVec 32 := 2#32
  let v390 : Index := Scalar.indexCast c2_i32_381
  let c96_382 : Index := 96#32
  ![v389.toNat, 2, 96]
def k0_off176 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v398 : Index := Scalar.indexCast arg12
  let c352 : Index := 352#32
  ![v398.toNat, 352]
def k0_off177 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v402 : Index := Scalar.indexCast arg12
  let c2_i32_385 : BitVec 32 := 2#32
  let v403 : Index := Scalar.indexCast c2_i32_385
  let c112_386 : Index := 112#32
  ![v402.toNat, 2, 112]
def k0_off178 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v411 : Index := Scalar.indexCast arg12
  let c368 : Index := 368#32
  ![v411.toNat, 368]
def k0_off179 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v415 : Index := Scalar.indexCast arg12
  let c3_i32 : BitVec 32 := 3#32
  let v416 : Index := Scalar.indexCast c3_i32
  let c0_389 : Index := 0#32
  ![v415.toNat, 3, 0]
def k0_off180 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v424 : Index := Scalar.indexCast arg12
  let c384 : Index := 384#32
  ![v424.toNat, 384]
def k0_off181 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v428 : Index := Scalar.indexCast arg12
  let c3_i32_392 : BitVec 32 := 3#32
  let v429 : Index := Scalar.indexCast c3_i32_392
  let c16_393 : Index := 16#32
  ![v428.toNat, 3, 16]
def k0_off182 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v437 : Index := Scalar.indexCast arg12
  let c400 : Index := 400#32
  ![v437.toNat, 400]
def k0_off183 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v441 : Index := Scalar.indexCast arg12
  let c3_i32_396 : BitVec 32 := 3#32
  let v442 : Index := Scalar.indexCast c3_i32_396
  let c32_397 : Index := 32#32
  ![v441.toNat, 3, 32]
def k0_off184 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v450 : Index := Scalar.indexCast arg12
  let c416 : Index := 416#32
  ![v450.toNat, 416]
def k0_off185 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v454 : Index := Scalar.indexCast arg12
  let c3_i32_400 : BitVec 32 := 3#32
  let v455 : Index := Scalar.indexCast c3_i32_400
  let c48_401 : Index := 48#32
  ![v454.toNat, 3, 48]
def k0_off186 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v463 : Index := Scalar.indexCast arg12
  let c432 : Index := 432#32
  ![v463.toNat, 432]
def k0_off187 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v467 : Index := Scalar.indexCast arg12
  let c3_i32_404 : BitVec 32 := 3#32
  let v468 : Index := Scalar.indexCast c3_i32_404
  let c64_405 : Index := 64#32
  ![v467.toNat, 3, 64]
def k0_off188 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v476 : Index := Scalar.indexCast arg12
  let c448 : Index := 448#32
  ![v476.toNat, 448]
def k0_off189 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v480 : Index := Scalar.indexCast arg12
  let c3_i32_408 : BitVec 32 := 3#32
  let v481 : Index := Scalar.indexCast c3_i32_408
  let c80_409 : Index := 80#32
  ![v480.toNat, 3, 80]
def k0_off190 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v489 : Index := Scalar.indexCast arg12
  let c464 : Index := 464#32
  ![v489.toNat, 464]
def k0_off191 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v493 : Index := Scalar.indexCast arg12
  let c3_i32_412 : BitVec 32 := 3#32
  let v494 : Index := Scalar.indexCast c3_i32_412
  let c96_413 : Index := 96#32
  ![v493.toNat, 3, 96]
def k0_off192 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v502 : Index := Scalar.indexCast arg12
  let c480 : Index := 480#32
  ![v502.toNat, 480]
def k0_off193 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v506 : Index := Scalar.indexCast arg12
  let c3_i32_416 : BitVec 32 := 3#32
  let v507 : Index := Scalar.indexCast c3_i32_416
  let c112_417 : Index := 112#32
  ![v506.toNat, 3, 112]
def k0_off194 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v515 : Index := Scalar.indexCast arg12
  let c496 : Index := 496#32
  ![v515.toNat, 496]
def k0_off195 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v519 : Index := Scalar.indexCast arg12
  let c4_i32_420 : BitVec 32 := 4#32
  let v520 : Index := Scalar.indexCast c4_i32_420
  let c0_421 : Index := 0#32
  ![v519.toNat, 4, 0]
def k0_off196 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v528 : Index := Scalar.indexCast arg12
  let c512 : Index := 512#32
  ![v528.toNat, 512]
def k0_off197 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v532 : Index := Scalar.indexCast arg12
  let c4_i32_424 : BitVec 32 := 4#32
  let v533 : Index := Scalar.indexCast c4_i32_424
  let c16_425 : Index := 16#32
  ![v532.toNat, 4, 16]
def k0_off198 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v541 : Index := Scalar.indexCast arg12
  let c528 : Index := 528#32
  ![v541.toNat, 528]
def k0_off199 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v545 : Index := Scalar.indexCast arg12
  let c4_i32_428 : BitVec 32 := 4#32
  let v546 : Index := Scalar.indexCast c4_i32_428
  let c32_429 : Index := 32#32
  ![v545.toNat, 4, 32]
def k0_off200 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v554 : Index := Scalar.indexCast arg12
  let c544 : Index := 544#32
  ![v554.toNat, 544]
def k0_off201 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v558 : Index := Scalar.indexCast arg12
  let c4_i32_432 : BitVec 32 := 4#32
  let v559 : Index := Scalar.indexCast c4_i32_432
  let c48_433 : Index := 48#32
  ![v558.toNat, 4, 48]
def k0_off202 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v567 : Index := Scalar.indexCast arg12
  let c560 : Index := 560#32
  ![v567.toNat, 560]
def k0_off203 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v571 : Index := Scalar.indexCast arg12
  let c4_i32_436 : BitVec 32 := 4#32
  let v572 : Index := Scalar.indexCast c4_i32_436
  let c64_437 : Index := 64#32
  ![v571.toNat, 4, 64]
def k0_off204 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v580 : Index := Scalar.indexCast arg12
  let c576 : Index := 576#32
  ![v580.toNat, 576]
def k0_off205 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v584 : Index := Scalar.indexCast arg12
  let c4_i32_440 : BitVec 32 := 4#32
  let v585 : Index := Scalar.indexCast c4_i32_440
  let c80_441 : Index := 80#32
  ![v584.toNat, 4, 80]
def k0_off206 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v593 : Index := Scalar.indexCast arg12
  let c592 : Index := 592#32
  ![v593.toNat, 592]
def k0_off207 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v597 : Index := Scalar.indexCast arg12
  let c4_i32_444 : BitVec 32 := 4#32
  let v598 : Index := Scalar.indexCast c4_i32_444
  let c96_445 : Index := 96#32
  ![v597.toNat, 4, 96]
def k0_off208 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v606 : Index := Scalar.indexCast arg12
  let c608 : Index := 608#32
  ![v606.toNat, 608]
def k0_off209 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v610 : Index := Scalar.indexCast arg12
  let c4_i32_448 : BitVec 32 := 4#32
  let v611 : Index := Scalar.indexCast c4_i32_448
  let c112_449 : Index := 112#32
  ![v610.toNat, 4, 112]
def k0_off210 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v619 : Index := Scalar.indexCast arg12
  let c624 : Index := 624#32
  ![v619.toNat, 624]
def k0_off211 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v623 : Index := Scalar.indexCast arg12
  let c5_i32 : BitVec 32 := 5#32
  let v624 : Index := Scalar.indexCast c5_i32
  let c0_452 : Index := 0#32
  ![v623.toNat, 5, 0]
def k0_off212 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v632 : Index := Scalar.indexCast arg12
  let c640 : Index := 640#32
  ![v632.toNat, 640]
def k0_off213 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v636 : Index := Scalar.indexCast arg12
  let c5_i32_455 : BitVec 32 := 5#32
  let v637 : Index := Scalar.indexCast c5_i32_455
  let c16_456 : Index := 16#32
  ![v636.toNat, 5, 16]
def k0_off214 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v645 : Index := Scalar.indexCast arg12
  let c656 : Index := 656#32
  ![v645.toNat, 656]
def k0_off215 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v649 : Index := Scalar.indexCast arg12
  let c5_i32_459 : BitVec 32 := 5#32
  let v650 : Index := Scalar.indexCast c5_i32_459
  let c32_460 : Index := 32#32
  ![v649.toNat, 5, 32]
def k0_off216 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v658 : Index := Scalar.indexCast arg12
  let c672 : Index := 672#32
  ![v658.toNat, 672]
def k0_off217 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v662 : Index := Scalar.indexCast arg12
  let c5_i32_463 : BitVec 32 := 5#32
  let v663 : Index := Scalar.indexCast c5_i32_463
  let c48_464 : Index := 48#32
  ![v662.toNat, 5, 48]
def k0_off218 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v671 : Index := Scalar.indexCast arg12
  let c688 : Index := 688#32
  ![v671.toNat, 688]
def k0_off219 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v675 : Index := Scalar.indexCast arg12
  let c5_i32_467 : BitVec 32 := 5#32
  let v676 : Index := Scalar.indexCast c5_i32_467
  let c64_468 : Index := 64#32
  ![v675.toNat, 5, 64]
def k0_off220 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v684 : Index := Scalar.indexCast arg12
  let c704 : Index := 704#32
  ![v684.toNat, 704]
def k0_off221 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v688 : Index := Scalar.indexCast arg12
  let c5_i32_471 : BitVec 32 := 5#32
  let v689 : Index := Scalar.indexCast c5_i32_471
  let c80_472 : Index := 80#32
  ![v688.toNat, 5, 80]
def k0_off222 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v697 : Index := Scalar.indexCast arg12
  let c720 : Index := 720#32
  ![v697.toNat, 720]
def k0_off223 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v701 : Index := Scalar.indexCast arg12
  let c5_i32_475 : BitVec 32 := 5#32
  let v702 : Index := Scalar.indexCast c5_i32_475
  let c96_476 : Index := 96#32
  ![v701.toNat, 5, 96]
def k0_off224 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v710 : Index := Scalar.indexCast arg12
  let c736 : Index := 736#32
  ![v710.toNat, 736]
def k0_off225 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v714 : Index := Scalar.indexCast arg12
  let c5_i32_479 : BitVec 32 := 5#32
  let v715 : Index := Scalar.indexCast c5_i32_479
  let c112_480 : Index := 112#32
  ![v714.toNat, 5, 112]
def k0_off226 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v723 : Index := Scalar.indexCast arg12
  let c752 : Index := 752#32
  ![v723.toNat, 752]
def k0_off227 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v727 : Index := Scalar.indexCast arg12
  let c6_i32_483 : BitVec 32 := 6#32
  let v728 : Index := Scalar.indexCast c6_i32_483
  let c0_484 : Index := 0#32
  ![v727.toNat, 6, 0]
def k0_off228 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v736 : Index := Scalar.indexCast arg12
  let c768 : Index := 768#32
  ![v736.toNat, 768]
def k0_off229 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v740 : Index := Scalar.indexCast arg12
  let c6_i32_487 : BitVec 32 := 6#32
  let v741 : Index := Scalar.indexCast c6_i32_487
  let c16_488 : Index := 16#32
  ![v740.toNat, 6, 16]
def k0_off230 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v749 : Index := Scalar.indexCast arg12
  let c784 : Index := 784#32
  ![v749.toNat, 784]
def k0_off231 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v753 : Index := Scalar.indexCast arg12
  let c6_i32_491 : BitVec 32 := 6#32
  let v754 : Index := Scalar.indexCast c6_i32_491
  let c32_492 : Index := 32#32
  ![v753.toNat, 6, 32]
def k0_off232 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v762 : Index := Scalar.indexCast arg12
  let c800 : Index := 800#32
  ![v762.toNat, 800]
def k0_off233 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v766 : Index := Scalar.indexCast arg12
  let c6_i32_495 : BitVec 32 := 6#32
  let v767 : Index := Scalar.indexCast c6_i32_495
  let c48_496 : Index := 48#32
  ![v766.toNat, 6, 48]
def k0_off234 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v775 : Index := Scalar.indexCast arg12
  let c816 : Index := 816#32
  ![v775.toNat, 816]
def k0_off235 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v779 : Index := Scalar.indexCast arg12
  let c6_i32_499 : BitVec 32 := 6#32
  let v780 : Index := Scalar.indexCast c6_i32_499
  let c64_500 : Index := 64#32
  ![v779.toNat, 6, 64]
def k0_off236 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v788 : Index := Scalar.indexCast arg12
  let c832 : Index := 832#32
  ![v788.toNat, 832]
def k0_off237 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v792 : Index := Scalar.indexCast arg12
  let c6_i32_503 : BitVec 32 := 6#32
  let v793 : Index := Scalar.indexCast c6_i32_503
  let c80_504 : Index := 80#32
  ![v792.toNat, 6, 80]
def k0_off238 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v801 : Index := Scalar.indexCast arg12
  let c848 : Index := 848#32
  ![v801.toNat, 848]
def k0_off239 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v805 : Index := Scalar.indexCast arg12
  let c6_i32_507 : BitVec 32 := 6#32
  let v806 : Index := Scalar.indexCast c6_i32_507
  let c96_508 : Index := 96#32
  ![v805.toNat, 6, 96]
def k0_off240 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v814 : Index := Scalar.indexCast arg12
  let c864 : Index := 864#32
  ![v814.toNat, 864]
def k0_off241 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v818 : Index := Scalar.indexCast arg12
  let c6_i32_511 : BitVec 32 := 6#32
  let v819 : Index := Scalar.indexCast c6_i32_511
  let c112_512 : Index := 112#32
  ![v818.toNat, 6, 112]
def k0_off242 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v827 : Index := Scalar.indexCast arg12
  let c880 : Index := 880#32
  ![v827.toNat, 880]
def k0_off243 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v831 : Index := Scalar.indexCast arg12
  let c7_i32 : BitVec 32 := 7#32
  let v832 : Index := Scalar.indexCast c7_i32
  let c0_515 : Index := 0#32
  ![v831.toNat, 7, 0]
def k0_off244 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v840 : Index := Scalar.indexCast arg12
  let c896 : Index := 896#32
  ![v840.toNat, 896]
def k0_off245 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v844 : Index := Scalar.indexCast arg12
  let c7_i32_518 : BitVec 32 := 7#32
  let v845 : Index := Scalar.indexCast c7_i32_518
  let c16_519 : Index := 16#32
  ![v844.toNat, 7, 16]
def k0_off246 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v853 : Index := Scalar.indexCast arg12
  let c912 : Index := 912#32
  ![v853.toNat, 912]
def k0_off247 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v857 : Index := Scalar.indexCast arg12
  let c7_i32_522 : BitVec 32 := 7#32
  let v858 : Index := Scalar.indexCast c7_i32_522
  let c32_523 : Index := 32#32
  ![v857.toNat, 7, 32]
def k0_off248 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v866 : Index := Scalar.indexCast arg12
  let c928 : Index := 928#32
  ![v866.toNat, 928]
def k0_off249 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v870 : Index := Scalar.indexCast arg12
  let c7_i32_526 : BitVec 32 := 7#32
  let v871 : Index := Scalar.indexCast c7_i32_526
  let c48_527 : Index := 48#32
  ![v870.toNat, 7, 48]
def k0_off250 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v879 : Index := Scalar.indexCast arg12
  let c944 : Index := 944#32
  ![v879.toNat, 944]
def k0_off251 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v883 : Index := Scalar.indexCast arg12
  let c7_i32_530 : BitVec 32 := 7#32
  let v884 : Index := Scalar.indexCast c7_i32_530
  let c64_531 : Index := 64#32
  ![v883.toNat, 7, 64]
def k0_off252 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v892 : Index := Scalar.indexCast arg12
  let c960 : Index := 960#32
  ![v892.toNat, 960]
def k0_off253 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v896 : Index := Scalar.indexCast arg12
  let c7_i32_534 : BitVec 32 := 7#32
  let v897 : Index := Scalar.indexCast c7_i32_534
  let c80_535 : Index := 80#32
  ![v896.toNat, 7, 80]
def k0_off254 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v905 : Index := Scalar.indexCast arg12
  let c976 : Index := 976#32
  ![v905.toNat, 976]
def k0_off255 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v909 : Index := Scalar.indexCast arg12
  let c7_i32_538 : BitVec 32 := 7#32
  let v910 : Index := Scalar.indexCast c7_i32_538
  let c96_539 : Index := 96#32
  ![v909.toNat, 7, 96]
def k0_off256 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v918 : Index := Scalar.indexCast arg12
  let c992 : Index := 992#32
  ![v918.toNat, 992]
def k0_off257 (k0_t2 : Fin k0_t2_loop.trips) : Fin 3 → Nat :=
  let c0_i32_289 : BitVec 32 := 0#32
  let c1_i32_291 : BitVec 32 := 1#32
  let arg12 : BitVec 32 := Scf.iv c0_i32_289 c1_i32_291 k0_t2
  let v922 : Index := Scalar.indexCast arg12
  let c7_i32_542 : BitVec 32 := 7#32
  let v923 : Index := Scalar.indexCast c7_i32_542
  let c112_543 : Index := 112#32
  ![v922.toNat, 7, 112]
def k0_off258 (k0_t2 : Fin k0_t2_loop.trips) : Fin 2 → Nat :=
  let c0_i32_289 : BitVec 32 := 0#32
  let c1_i32_291 : BitVec 32 := 1#32
  let arg12 : BitVec 32 := Scf.iv c0_i32_289 c1_i32_291 k0_t2
  let v931 : Index := Scalar.indexCast arg12
  let c1008 : Index := 1008#32
  ![v931.toNat, 1008]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6144x1024 : Shape := ⟨2, ![6144, 1024]⟩
abbrev S2048x2 : Shape := ⟨2, ![2048, 2]⟩
abbrev S_ : Shape := ⟨0, ![]⟩
abbrev S2048x2x1 : Shape := ⟨3, ![2048, 2, 1]⟩
abbrev S1 : Shape := ⟨1, ![1]⟩
abbrev S1x1x1 : Shape := ⟨3, ![1, 1, 1]⟩
abbrev S2048x2x1024 : Shape := ⟨3, ![2048, 2, 1024]⟩
abbrev S2048x1024 : Shape := ⟨2, ![2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S2048x2, .i32⟩
  | .hbm, ⟨2, _⟩ => ⟨S_, .i32⟩
  | .hbm, ⟨3, _⟩ => ⟨S2048x2, .i32⟩
  | .hbm, ⟨4, _⟩ => ⟨S2048x2, .i1⟩
  | .hbm, ⟨5, _⟩ => ⟨S_, .i32⟩
  | .hbm, ⟨6, _⟩ => ⟨S2048x2, .i32⟩
  | .hbm, ⟨7, _⟩ => ⟨S2048x2, .i32⟩
  | .hbm, ⟨8, _⟩ => ⟨S2048x2, .i32⟩
  | .hbm, ⟨9, _⟩ => ⟨S2048x2x1, .i32⟩
  | .hbm, ⟨10, _⟩ => ⟨S1, .i32⟩
  | .hbm, ⟨11, _⟩ => ⟨S_, .i32⟩
  | .hbm, ⟨12, _⟩ => ⟨S2048x2x1, .i32⟩
  | .hbm, ⟨13, _⟩ => ⟨S2048x2x1, .i1⟩
  | .hbm, ⟨14, _⟩ => ⟨S1x1x1, .i32⟩
  | .hbm, ⟨15, _⟩ => ⟨S2048x2x1, .i32⟩
  | .hbm, ⟨16, _⟩ => ⟨S2048x2x1, .i1⟩
  | .hbm, ⟨17, _⟩ => ⟨S2048x2x1, .i1⟩
  | .hbm, ⟨18, _⟩ => ⟨S_, .i1⟩
  | .hbm, ⟨19, _⟩ => ⟨S2048x2, .i1⟩
  | .hbm, ⟨20, _⟩ => ⟨S2048x2x1024, .f32⟩
  | .hbm, ⟨21, _⟩ => ⟨S2048x2x1024, .i1⟩
  | .hbm, ⟨22, _⟩ => ⟨S_, .f32⟩
  | .hbm, ⟨23, _⟩ => ⟨S2048x2x1024, .f32⟩
  | .hbm, ⟨24, _⟩ => ⟨S2048x2x1024, .f32⟩
  | .hbm, ⟨25, _⟩ => ⟨S_, .f32⟩
  | .hbm, ⟨26, _⟩ => ⟨S2048x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Experts.lean ====
abbrev S6144x512 : Shape := ⟨2, ![6144, 512]⟩
abbrev S8x7168x1024 : Shape := ⟨3, ![8, 7168, 1024]⟩
abbrev S8x1024x3584 : Shape := ⟨3, ![8, 1024, 3584]⟩
abbrev S6144x1 : Shape := ⟨2, ![6144, 1]⟩
abbrev S1x32 : Shape := ⟨2, ![1, 32]⟩
abbrev S6144x1024 : Shape := ⟨2, ![6144, 1024]⟩
abbrev S256x512 : Shape := ⟨2, ![256, 512]⟩
abbrev S1x512x1024 : Shape := ⟨3, ![1, 512, 1024]⟩
abbrev S1x1 : Shape := ⟨2, ![1, 1]⟩
abbrev S1x1024x512 : Shape := ⟨3, ![1, 1024, 512]⟩
abbrev S256x1 : Shape := ⟨2, ![256, 1]⟩
abbrev S256x1024 : Shape := ⟨2, ![256, 1024]⟩
abbrev S512x1024 : Shape := ⟨2, ![512, 1024]⟩
abbrev S1024x512 : Shape := ⟨2, ![1024, 512]⟩

abbrev nBuf : Space → Nat
  | .hbm => 5
  | .vmem => 11
  | .smem => 1
  | _ => 0

abbrev bufTy : (tb : Table) → Fin (tcTables nBuf tb) → BufTy
  | .hbm, ⟨0, _⟩ => ⟨S6144x512, .i32⟩
  | .hbm, ⟨1, _⟩ => ⟨S8x7168x1024, .f32⟩
  | .hbm, ⟨2, _⟩ => ⟨S8x1024x3584, .f32⟩
  | .hbm, ⟨3, _⟩ => ⟨S6144x1, .f32⟩
  | .hbm, ⟨4, _⟩ => ⟨S6144x1024, .f32⟩
  | .local _ .vmem, ⟨0, _⟩ => ⟨S256x512, .i32⟩
  | .local _ .vmem, ⟨1, _⟩ => ⟨S256x512, .i32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x512, .f32⟩
  | .local _ .vmem, ⟨7, _⟩ => ⟨S1x1024x512, .f32⟩
  | .local _ .vmem, ⟨8, _⟩ => ⟨S256x1, .f32⟩
  | .local _ .vmem, ⟨9, _⟩ => ⟨S256x1, .f32⟩
  | .local _ .vmem, ⟨10, _⟩ => ⟨S6144x1024, .f32⟩
  | .local _ .smem, ⟨0, _⟩ => ⟨S1x32, .i32⟩
  | _, _ => ⟨S6144x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![7, 24], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_cond2 (i : grid0.Coords) : BitVec 1 :=
  let arg0 : BitVec 32 := BitVec.ofNat 32 (i 0).val
  let c0_i32_19 : BitVec 32 := 0#32
  let v40 : BitVec 1 := Scalar.cmpi .eq arg0 c0_i32_19
  let v41 : BitVec 32 := Scalar.extui v40
  let c0_i32_20 : BitVec 32 := 0#32
  let v42 : BitVec 1 := Scalar.cmpi .ne v41 c0_i32_20
  v42

def k0_off2 (i : grid0.Coords) : Fin 2 → Nat :=
  let arg1 : BitVec 32 := BitVec.ofNat 32 (i 1).val
  let c256_i32 : BitVec 32 := 256#32
  let v39 : BitVec 32 := Scalar.muli arg1 c256_i32
  let v46 : Index := Scalar.indexCast v39
  let c0_23 : Index := 0#32
  ![v46.toNat, 0]
def k0_cond3 (i : grid0.Coords) : BitVec 1 :=
  let arg0 : BitVec 32 := BitVec.ofNat 32 (i 0).val
  let c0_i32_21 : BitVec 32 := 0#32
  let v43 : BitVec 1 := Scalar.cmpi .sgt arg0 c0_i32_21
  let v44 : BitVec 32 := Scalar.extui v43
  let c0_i32_22 : BitVec 32 := 0#32
  let v45 : BitVec 1 := Scalar.cmpi .ne v44 c0_i32_22
  v45

def k0_off3 (i : grid0.Coords) : Fin 2 → Nat :=
  let arg1 : BitVec 32 := BitVec.ofNat 32 (i 1).val
  let c256_i32 : BitVec 32 := 256#32
  let v39 : BitVec 32 := Scalar.muli arg1 c256_i32
  let v46 : Index := Scalar.indexCast v39
  let c0_23 : Index := 0#32
  ![v46.toNat, 0]
def k0_cond1 (v1 : BitVec 32) : BitVec 1 :=
  let c0_i32 : BitVec 32 := 0#32
  let v2 : BitVec 1 := Scalar.cmpi .sge v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1x1.size a ≤ S1x32.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S1x32) ![0, v0.toNat] S1x1.size (k0_off1_inb i)) numel1_S1x1
  let c0_i32 : BitVec 32 := 0#32
  let v2 : BitVec 32 := Scalar.maxsi v1 c0_i32
  let c0_i32_0 : BitVec 32 := 0#32
  let c0_i32_1 : BitVec 32 := 0#32
  ![v2.toNat, arg0.toNat, c0_i32_0.toNat]

def cc0_transform_2 (k0_off1_inb : ∀ i : grid0.Coords, ∀ a, (k0_off1 i) a + S1x1.size a ≤ S1x32.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S1x32) ![0, v0.toNat] S1x1.size (k0_off1_inb i)) numel1_S1x1
  let c0_i32 : BitVec 32 := 0#32
  let v2 : BitVec 32 := Scalar.maxsi v1 c0_i32
  let c7_i32 : BitVec 32 := 7#32
  let v3 : BitVec 32 := Scalar.addi c7_i32 arg0
  let c0_i32_0 : BitVec 32 := 0#32
  let c0_i32_1 : BitVec 32 := 0#32
  ![v2.toNat, v3.toNat, c0_i32_0.toNat]

def cc0_transform_3 (k0_off1_inb : ∀ i : grid0.Coords, ∀ a, (k0_off1 i) a + S1x1.size a ≤ S1x32.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S1x32) ![0, v0.toNat] S1x1.size (k0_off1_inb i)) numel1_S1x1
  let c0_i32 : BitVec 32 := 0#32
  let v2 : BitVec 32 := Scalar.maxsi v1 c0_i32
  let c0_i32_0 : BitVec 32 := 0#32
  let c0_i32_1 : BitVec 32 := 0#32
  ![v2.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S6144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ExpertsReferenceIdeal.lean ====
abbrev S6144x512 : Shape := ⟨2, ![6144, 512]⟩
abbrev S8x7168x1024 : Shape := ⟨3, ![8, 7168, 1024]⟩
abbrev S8x1024x3584 : Shape := ⟨3, ![8, 1024, 3584]⟩
abbrev S6144x1 : Shape := ⟨2, ![6144, 1]⟩
abbrev S1x32 : Shape := ⟨2, ![1, 32]⟩
abbrev S6144x512x2 : Shape := ⟨3, ![6144, 512, 2]⟩
abbrev S6144x512x1 : Shape := ⟨3, ![6144, 512, 1]⟩
abbrev S6144x1024 : Shape := ⟨2, ![6144, 1024]⟩
abbrev S1x24 : Shape := ⟨2, ![1, 24]⟩
abbrev S24 : Shape := ⟨1, ![24]⟩
abbrev S24x256x1024 : Shape := ⟨3, ![24, 256, 1024]⟩
abbrev S_ : Shape := ⟨0, ![]⟩
abbrev S24x1 : Shape := ⟨2, ![24, 1]⟩
abbrev S1 : Shape := ⟨1, ![1]⟩
abbrev S1x1 : Shape := ⟨2, ![1, 1]⟩
abbrev S24x7168x1024 : Shape := ⟨3, ![24, 7168, 1024]⟩
abbrev S24x256x7168 : Shape := ⟨3, ![24, 256, 7168]⟩
abbrev S24x256x3584 : Shape := ⟨3, ![24, 256, 3584]⟩
abbrev S24x256x1 : Shape := ⟨3, ![24, 256, 1]⟩
abbrev S24x1024x3584 : Shape := ⟨3, ![24, 1024, 3584]⟩

abbrev nBuf : Space → Nat
  | .hbm => 79
  | .vmem => 0
  | .smem => 0
  | _ => 0

abbrev bufTy : (tb : Table) → Fin (tcTables nBuf tb) → BufTy
  | .hbm, ⟨0, _⟩ => ⟨S6144x512, .i32⟩
  | .hbm, ⟨1, _⟩ => ⟨S8x7168x1024, .f32⟩
  | .hbm, ⟨2, _⟩ => ⟨S8x1024x3584, .f32⟩
  | .hbm, ⟨3, _⟩ => ⟨S6144x1, .f32⟩
  | .hbm, ⟨4, _⟩ => ⟨S1x32, .i32⟩
  | .hbm, ⟨5, _⟩ => ⟨S6144x512x2, .bf16⟩
  | .hbm, ⟨6, _⟩ => ⟨S6144x512x1, .bf16⟩
  | .hbm, ⟨7, _⟩ => ⟨S6144x512, .bf16⟩
  | .hbm, ⟨8, _⟩ => ⟨S6144x512x1, .bf16⟩
  | .hbm, ⟨9, _⟩ => ⟨S6144x512, .bf16⟩
  | .hbm, ⟨10, _⟩ => ⟨S6144x1024, .bf16⟩
  | .hbm, ⟨11, _⟩ => ⟨S6144x1024, .f32⟩
  | .hbm, ⟨12, _⟩ => ⟨S1x24, .i32⟩
  | .hbm, ⟨13, _⟩ => ⟨S24, .i32⟩
  | .hbm, ⟨14, _⟩ => ⟨S24x256x1024, .f32⟩
  | .hbm, ⟨15, _⟩ => ⟨S_, .i32⟩
  | .hbm, ⟨16, _⟩ => ⟨S24, .i32⟩
  | .hbm, ⟨17, _⟩ => ⟨S24, .i1⟩
  | .hbm, ⟨18, _⟩ => ⟨S_, .i32⟩
  | .hbm, ⟨19, _⟩ => ⟨S24, .i32⟩
  | .hbm, ⟨20, _⟩ => ⟨S24, .i32⟩
  | .hbm, ⟨21, _⟩ => ⟨S24, .i32⟩
  | .hbm, ⟨22, _⟩ => ⟨S24x1, .i32⟩
  | .hbm, ⟨23, _⟩ => ⟨S1, .i32⟩
  | .hbm, ⟨24, _⟩ => ⟨S_, .i32⟩
  | .hbm, ⟨25, _⟩ => ⟨S24x1, .i32⟩
  | .hbm, ⟨26, _⟩ => ⟨S24x1, .i1⟩
  | .hbm, ⟨27, _⟩ => ⟨S1x1, .i32⟩
  | .hbm, ⟨28, _⟩ => ⟨S24x1, .i32⟩
  | .hbm, ⟨29, _⟩ => ⟨S24x1, .i1⟩
  | .hbm, ⟨30, _⟩ => ⟨S24x1, .i1⟩
  | .hbm, ⟨31, _⟩ => ⟨S_, .i1⟩
  | .hbm, ⟨32, _⟩ => ⟨S24, .i1⟩
  | .hbm, ⟨33, _⟩ => ⟨S24x7168x1024, .f32⟩
  | .hbm, ⟨34, _⟩ => ⟨S24x7168x1024, .i1⟩
  | .hbm, ⟨35, _⟩ => ⟨S_, .f32⟩
  | .hbm, ⟨36, _⟩ => ⟨S24x7168x1024, .f32⟩
  | .hbm, ⟨37, _⟩ => ⟨S24x7168x1024, .f32⟩
  | .hbm, ⟨38, _⟩ => ⟨S24x256x7168, .f32⟩
  | .hbm, ⟨39, _⟩ => ⟨S24x256x3584, .f32⟩
  | .hbm, ⟨40, _⟩ => ⟨S24x256x3584, .f32⟩
  | .hbm, ⟨41, _⟩ => ⟨S24x256x3584, .f32⟩
  | .hbm, ⟨42, _⟩ => ⟨S_, .f32⟩
  | .hbm, ⟨43, _⟩ => ⟨S24x256x3584, .f32⟩
  | .hbm, ⟨44, _⟩ => ⟨S24x256x3584, .f32⟩
  | .hbm, ⟨45, _⟩ => ⟨S_, .f32⟩
  | .hbm, ⟨46, _⟩ => ⟨S24x256x3584, .f32⟩
  | .hbm, ⟨47, _⟩ => ⟨S24x256x3584, .f32⟩
  | .hbm, ⟨48, _⟩ => ⟨S24x256x3584, .f32⟩
  | .hbm, ⟨49, _⟩ => ⟨S24x256x3584, .f32⟩
  | .hbm, ⟨50, _⟩ => ⟨S24x256x3584, .f32⟩
  | .hbm, ⟨51, _⟩ => ⟨S24x256x1, .f32⟩
  | .hbm, ⟨52, _⟩ => ⟨S24x256x3584, .f32⟩
  | .hbm, ⟨53, _⟩ => ⟨S24x256x3584, .f32⟩
  | .hbm, ⟨54, _⟩ => ⟨S_, .i32⟩
  | .hbm, ⟨55, _⟩ => ⟨S24, .i32⟩
  | .hbm, ⟨56, _⟩ => ⟨S24, .i1⟩
  | .hbm, ⟨57, _⟩ => ⟨S_, .i32⟩
  | .hbm, ⟨58, _⟩ => ⟨S24, .i32⟩
  | .hbm, ⟨59, _⟩ => ⟨S24, .i32⟩
  | .hbm, ⟨60, _⟩ => ⟨S24, .i32⟩
  | .hbm, ⟨61, _⟩ => ⟨S24x1, .i32⟩
  | .hbm, ⟨62, _⟩ => ⟨S1, .i32⟩
  | .hbm, ⟨63, _⟩ => ⟨S_, .i32⟩
  | .hbm, ⟨64, _⟩ => ⟨S24x1, .i32⟩
  | .hbm, ⟨65, _⟩ => ⟨S24x1, .i1⟩
  | .hbm, ⟨66, _⟩ => ⟨S1x1, .i32⟩
  | .hbm, ⟨67, _⟩ => ⟨S24x1, .i32⟩
  | .hbm, ⟨68, _⟩ => ⟨S24x1, .i1⟩
  | .hbm, ⟨69, _⟩ => ⟨S24x1, .i1⟩
  | .hbm, ⟨70, _⟩ => ⟨S_, .i1⟩
  | .hbm, ⟨71, _⟩ => ⟨S24, .i1⟩
  | .hbm, ⟨72, _⟩ => ⟨S24x1024x3584, .f32⟩
  | .hbm, ⟨73, _⟩ => ⟨S24x1024x3584, .i1⟩
  | .hbm, ⟨74, _⟩ => ⟨S_, .f32⟩
  | .hbm, ⟨75, _⟩ => ⟨S24x1024x3584, .f32⟩
  | .hbm, ⟨76, _⟩ => ⟨S24x1024x3584, .f32⟩
  | .hbm, ⟨77, _⟩ => ⟨S24x256x1024, .f32⟩
  | .hbm, ⟨78, _⟩ => ⟨S6144x1024, .f32⟩
  | _, _ => ⟨S6144x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩

abbrev nD : Nat := 1
abbrev τ : Topo := Topo.v7x

variable {F : FTy → Type} [FloatOps F]
-- ==== Router.lean ====
abbrev S2048x1024 : Shape := ⟨2, ![2048, 1024]⟩
abbrev S8x1024 : Shape := ⟨2, ![8, 1024]⟩
abbrev S2048x2 : Shape := ⟨2, ![2048, 2]⟩
abbrev S1x32 : Shape := ⟨2, ![1, 32]⟩
abbrev S2048x512 : Shape := ⟨2, ![2048, 512]⟩
abbrev S2048x8 : Shape := ⟨2, ![2048, 8]⟩
abbrev S2048 : Shape := ⟨1, ![2048]⟩
abbrev S2048x1 : Shape := ⟨2, ![2048, 1]⟩
abbrev S1x8 : Shape := ⟨2, ![1, 8]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S1024x8 : Shape := ⟨2, ![1024, 8]⟩
abbrev S1x1 : Shape := ⟨2, ![1, 1]⟩
abbrev S1x7 : Shape := ⟨2, ![1, 7]⟩
abbrev S1x2 : Shape := ⟨2, ![1, 2]⟩
abbrev S1x6 : Shape := ⟨2, ![1, 6]⟩
abbrev S1x4 : Shape := ⟨2, ![1, 4]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S2048x2, .f32⟩
  | .hbm, ⟨3, _⟩ => ⟨S2048x2, .i32⟩
  | .hbm, ⟨4, _⟩ => ⟨S1x32, .i32⟩
  | .hbm, ⟨5, _⟩ => ⟨S2048x512, .i32⟩
  | .local _ .vmem, ⟨0, _⟩ => ⟨S2048x1024, .f32⟩
  | .local _ .vmem, ⟨1, _⟩ => ⟨S8x1024, .f32⟩
  | .local _ .vmem, ⟨2, _⟩ => ⟨S2048x2, .f32⟩
  | .local _ .vmem, ⟨3, _⟩ => ⟨S2048x2, .i32⟩
  | .local _ .vmem, ⟨4, _⟩ => ⟨S1x32, .i32⟩
  | .local _ .vmem, ⟨5, _⟩ => ⟨S2048x512, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RouterIdeal.lean ====
abbrev S2048x1024 : Shape := ⟨2, ![2048, 1024]⟩
abbrev S8x1024 : Shape := ⟨2, ![8, 1024]⟩
abbrev S2048x2 : Shape := ⟨2, ![2048, 2]⟩
abbrev S1x32 : Shape := ⟨2, ![1, 32]⟩
abbrev S2048x2x512 : Shape := ⟨3, ![2048, 2, 512]⟩
abbrev S2048x1x512 : Shape := ⟨3, ![2048, 1, 512]⟩
abbrev S2048x512 : Shape := ⟨2, ![2048, 512]⟩
abbrev S2048x8 : Shape := ⟨2, ![2048, 8]⟩
abbrev S2048 : Shape := ⟨1, ![2048]⟩
abbrev S2048x1 : Shape := ⟨2, ![2048, 1]⟩
abbrev S1x8 : Shape := ⟨2, ![1, 8]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S1024x8 : Shape := ⟨2, ![1024, 8]⟩
abbrev S1x1 : Shape := ⟨2, ![1, 1]⟩
abbrev S1x7 : Shape := ⟨2, ![1, 7]⟩
abbrev S1x2 : Shape := ⟨2, ![1, 2]⟩
abbrev S1x6 : Shape := ⟨2, ![1, 6]⟩
abbrev S1x4 : Shape := ⟨2, ![1, 4]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S2048x2, .f32⟩
  | .hbm, ⟨3, _⟩ => ⟨S2048x2, .i32⟩
  | .hbm, ⟨4, _⟩ => ⟨S1x32, .i32⟩
  | .hbm, ⟨5, _⟩ => ⟨S2048x2x512, .bf16⟩
  | .local _ .vmem, ⟨0, _⟩ => ⟨S2048x1024, .f32⟩
  | .local _ .vmem, ⟨1, _⟩ => ⟨S8x1024, .f32⟩
  | .local _ .vmem, ⟨2, _⟩ => ⟨S2048x2, .f32⟩
  | .local _ .vmem, ⟨3, _⟩ => ⟨S2048x2, .i32⟩
  | .local _ .vmem, ⟨4, _⟩ => ⟨S1x32, .i32⟩
  | .local _ .vmem, ⟨5, _⟩ => ⟨S2048x2x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RouterReferenceIdeal.lean ====
abbrev S2048x1024 : Shape := ⟨2, ![2048, 1024]⟩
abbrev S8x1024 : Shape := ⟨2, ![8, 1024]⟩
abbrev S1024x8 : Shape := ⟨2, ![1024, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S1024x8, .f32⟩
  | .hbm, ⟨3, _⟩ => ⟨S2048x8, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x1, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x8, .f32⟩
  | .hbm, ⟨17, _⟩ => ⟨S2048x8, .f32⟩
  | .hbm, ⟨18, _⟩ => ⟨S2048x2, .f32⟩
  | .hbm, ⟨19, _⟩ => ⟨S2048x2, .i32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x2, .f32⟩
  | .hbm, ⟨24, _⟩ => ⟨S2048x2, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Launch.lean ====
/-
  The combine call as the launch theorem sees it: its labels, definitions and handshake algebra, the
  task's memrefs and thread, the arrays it names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.Pre_in_rows

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

/-- The assertions' algebra at this program. -/
abbrev MM (F : FTy → Type) : Type _ := MT nD τ sig (HIx 1) (Elt F) ℕ UU ℕ

abbrev EH : Emb UH (MT nD τ sig (HIx 1) (Elt F) ℕ UU ℕ) := embL

/-! ## The task's thread and memrefs -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The expert rows, the two position columns, the result; the two index lists, the two row stages, the sums. -/
abbrev rowsV : Memref sig .scVector .hbm S6144x8x128 .f32 := Memref.whole main_v4_scv
abbrev p0V : Memref sig .scVector .hbm S2048 .i32 := Memref.whole main_v1_scv
abbrev p1V : Memref sig .scVector .hbm S2048 .i32 := Memref.whole main_v3_scv
abbrev outV : Memref sig .scVector .hbm S2048x1024 .f32 := Memref.whole main_v5_scv
abbrev i0V : Memref sig .scVector .vmem S32 .i32 := Memref.whole cc0_scratch0
abbrev i1V : Memref sig .scVector .vmem S32 .i32 := Memref.whole cc0_scratch1
abbrev r0V : Memref sig .scVector .vmem S32x8x128 .f32 := Memref.whole cc0_scratch2
abbrev r1V : Memref sig .scVector .vmem S32x8x128 .f32 := Memref.whole cc0_scratch3
abbrev accV : Memref sig .scVector .vmem S32x1024 .f32 := Memref.whole cc0_scratch4

end Cert.Proof.Combine

end
-- ==== Proof.Sums.lean ====
/-
  The row sums: what one stored piece of sixteen lanes holds, and when a list of such pieces writes a whole row of the sums.
-/
module

public import proofs.«01_k».proof.Proof.Launch
public import Idealize.ShloMosaic.Lib.Pipeline.Value
public import Idealize.ShloMosaic.Lib.Pointwise.ElementwiseCore

@[expose] public section

noncomputable section

namespace Cert.Proof.Combine

open Cert.KernelIdeal Cert.KernelIdeal.Gen

open Idealize.ShloMosaic
open Idealize.ShloMosaic.Tactic

variable {F : FTy → Type} [FloatOps F]

/-- Where entry `y` of a row of 1024 lies when the row is staged as eight lines of 128. -/
def fold8 (y : S32x1024.Idx) : S32x8x128.Idx
  | 0 => ⟨(y 0).val, (y 0).isLt⟩
  | 1 => ⟨(y 1).val / 128, (Nat.div_lt_iff_lt_mul (by decide)).2 (y 1).isLt⟩
  | 2 => ⟨(y 1).val % 128, Nat.mod_lt _ (by decide)⟩

/-- Entry `y` of the sum of the two staged rows. -/
def sumAt (R0 R1 : Vec F S32x8x128 .f32) : Vec F S32x1024 .f32 :=
  fun y => FloatOps.addf (R0 (fold8 y)) (R1 (fold8 y))

/-- The lane of the sixteen that entry `x` of a stored group is, -/
def lane16 (x : S1x16.Idx) : S16.Idx
  | 0 => ⟨(x 1).val, (x 1).isLt⟩

/-- and its place in a loaded group. -/
def lane116 (x : S1x16.Idx) : S1x1x16.Idx
  | 0 => ⟨0, by decide⟩
  | 1 => ⟨0, by decide⟩
  | 2 => ⟨(x 1).val, (x 1).isLt⟩

/-- Lane `x` of the stored sum is lane `x` of the one operand plus that of the other. -/
theorem lanesSum_apply (a b : Vec F S1x1x16 .f32) (x : S1x16.Idx) :
    k0_pay1 a b x = FloatOps.addf (a (lane116 x)) (b (lane116 x)) := by
  have hx0 : (x 0).val = 0 := Nat.lt_one_iff.1 (x 0).isLt
  have e2 : ∀ (c : Vec F S1x1x16 .f32) (h : S1x1x16.ShapeCasts S16), shapeCast S16 c h (lane16 x) = c (lane116 x) := fun c h =>
    shapeCast_apply c h (lane16 x) (lane116 x) (by
      rw [Shape.rowMajor_val_one, Shape.rowMajor_val_three]
      show (0 * 1 + 0) * 16 + (x 1).val = (x 1).val
      omega)
  unfold k0_pay1
  refine (shapeCast_apply _ _ x (lane16 x) (by
      rw [Shape.rowMajor_val_one, Shape.rowMajor_val_two, hx0]
      show (x 1).val = 0 * 16 + (x 1).val
      omega)).trans ?_
  exact congrArg₂ FloatOps.addf (e2 a _) (e2 b _)

/-- The pieces of `Ls` all agree with `G`, and they fill the first `n` groups of sixteen lanes of row `t`. -/
def Fills (G : Vec F S32x1024 .f32) (t n : ℕ) (Ls : List (View.Piece (Elt F) S32x1024 .f32)) : Prop :=
  (∀ p ∈ Ls, ∀ x, p.2 x = G (p.1.emb x)) ∧ ∀ y : S32x1024.Idx, (y 0).val = t → (y 1).val < 16 * n → ∃ p ∈ Ls, y ∈ p.1.set

/-- No piece fills no group. -/
theorem Fills.nil (G : Vec F S32x1024 .f32) (t : ℕ) : Fills G t 0 [] :=
  ⟨fun _ h => absurd h List.not_mem_nil, fun _ _ h => absurd h (by omega)⟩

/-- One more stored sum fills one more group, when it is stored where the lanes it adds are staged. -/
theorem Fills.cons {R0 R1 : Vec F S32x8x128 .f32} {t n : ℕ} {Ls : List (View.Piece (Elt F) S32x1024 .f32)}
    {o3 : Fin 3 → ℕ} {h3 h3'} {o2 : Fin 2 → ℕ} {h2} [c3 : ClosedOff o3] [c2 : ClosedOff o2]
    (k3 : c3.form = ![t, n / 8, n % 8 * 16]) (k2 : c2.form = ![t, n * 16]) (hn : n < 64)
    (h : Fills (sumAt R0 R1) t n Ls) :
    Fills (sumAt R0 R1) t (n + 1) (⟨Rect.unit (s := S32x1024) o2 S1x16.size h2,
      k0_pay1 ((r0V).view.readAt (Elt F) (Rect.unit (s := S32x8x128) o3 S1x1x16.size h3).toLoadRect R0)
        ((r1V).view.readAt (Elt F) (Rect.unit (s := S32x8x128) o3 S1x1x16.size h3').toLoadRect R1)⟩ :: Ls) := by
  have q3 := c3.eq.trans k3
  have q2 := c2.eq.trans k2
  clear k3 k2
  subst q3 q2
  refine ⟨List.forall_mem_cons.2 ⟨fun x => ?_, h.1⟩, fun y h0 h1 => ?_⟩
  · have hx0 : (x 0).val = 0 := Nat.lt_one_iff.1 (x 0).isLt
    have hx1 : (x 1).val < 16 := (x 1).isLt
    refine (lanesSum_apply _ _ x).trans ?_
    have e : ∀ hh, (Rect.unit (s := S32x8x128) ![t, n / 8, n % 8 * 16] S1x1x16.size hh).toLoadRect.idx (lane116 x)
        = fold8 ((Rect.unit (s := S32x1024) ![t, n * 16] S1x16.size h2).emb x) := by
      intro hh
      funext a
      apply Fin.ext
      match a with
      | 0 => show t + 1 * 0 = t + 1 * (x 0).val; omega
      | 1 => show n / 8 + 1 * 0 = (n * 16 + 1 * (x 1).val) / 128; omega
      | 2 => show n % 8 * 16 + 1 * (x 1).val = (n * 16 + 1 * (x 1).val) % 128; omega
    exact congrArg₂ FloatOps.addf (congrArg R0 (e h3)) (congrArg R1 (e h3'))
  · by_cases hlt : (y 1).val < 16 * n
    · obtain ⟨p, hp, hy⟩ := h.2 y h0 hlt
      exact ⟨p, List.mem_cons_of_mem _ hp, hy⟩
    · refine ⟨_, List.mem_cons_self, ?_⟩
      rw [Rect.mem_set_unit]
      intro a
      match a with
      | 0 => show t ≤ (y 0).val ∧ (y 0).val < t + 1; omega
      | 1 => show n * 16 ≤ (y 1).val ∧ (y 1).val < n * 16 + 16; omega

end Cert.Proof.Combine

end
-- ==== Proof.Trip.lean ====
/-
  One trip of each of the two summing loops: row `k` of the sums is stored, sixty-four pieces of it.
-/
module

public import proofs.«01_k».proof.Proof.Sums

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- What a summing trip holds: the two stages at `R0`, `R1`, the sums at `f`. -/
abbrev Stages (d : Dev nD) (L : grid0.Coords) (R0 : Buf (Elt F) ((r0V).view.loc (VT d L))) (R1 : Buf (Elt F) ((r1V).view.loc (VT d L)))
    (f : Buf (Elt F) ((accV).view.loc (VT d L))) : sProp (MM F) :=
  iprop(((r0V).view.loc (VT d L) ↦{fullShare} R0) ∗ ((r1V).view.loc (VT d L) ↦{fullShare} R1) ∗ ((accV).view.loc (VT d L) ↦{fullShare} f))

/-- Trip `k` of the first chunk's loop, the pieces it stores found by the run. -/
def trip1 (d : Dev nD) (L : grid0.Coords) (k : Fin k0_t1_loop.trips) (R0 : Buf (Elt F) ((r0V).view.loc (VT d L))) (R1 : Buf (Elt F) ((r1V).view.loc (VT d L))) :
    { Ls : List (View.Piece (Elt F) S32x1024 .f32) // ∀ f : Buf (Elt F) ((accV).view.loc (VT d L)),
      Stages d L R0 R1 f ⊢ wp frame (wpE (defs₀ (F := F)) 𝒱₀ (VT d L) none) Set.univ
        (k0_t1_body L rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5 k ⟨⟩)
        fun _ => Stages d L R0 R1 ((accV).view.writes (Elt F) f Ls) } := by
  refine ⟨?_, fun f => ?run⟩
  case run =>
    unfold k0_t1_body Stages
    iintro ⟨H0, H1, Ha⟩
    sl_exec
    sl_step
    isplitl [H0]; · iexact H0
    isplitl [H1]; · iexact H1
    iexact Ha

/-- Trip `k` of the second chunk's loop, the pieces it stores found by the run. -/
def trip2 (d : Dev nD) (L : grid0.Coords) (k : Fin k0_t2_loop.trips) (R0 : Buf (Elt F) ((r0V).view.loc (VT d L))) (R1 : Buf (Elt F) ((r1V).view.loc (VT d L))) :
    { Ls : List (View.Piece (Elt F) S32x1024 .f32) // ∀ f : Buf (Elt F) ((accV).view.loc (VT d L)),
      Stages d L R0 R1 f ⊢ wp frame (wpE (defs₀ (F := F)) 𝒱₀ (VT d L) none) Set.univ
        (k0_t2_body L rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5 k ⟨⟩)
        fun _ => Stages d L R0 R1 ((accV).view.writes (Elt F) f Ls) } := by
  refine ⟨?_, fun f => ?run⟩
  case run =>
    unfold k0_t2_body Stages
    iintro ⟨H0, H1, Ha⟩
    sl_exec
    sl_step
    isplitl [H0]; · iexact H0
    isplitl [H1]; · iexact H1
    iexact Ha

/-- Rows below `n` of `g` are the sums of the staged rows. -/
def Summed (R0 R1 : Vec F S32x8x128 .f32) (n : ℕ) (g : Vec F S32x1024 .f32) : Prop :=
  ∀ y : S32x1024.Idx, (y 0).val < n → g y = sumAt R0 R1 y

/-- Storing one more row of sums. -/
theorem Summed.step {R0 R1 : Vec F S32x8x128 .f32} {n : ℕ} {g : Vec F S32x1024 .f32} (h : Summed R0 R1 n g)
    {Ls : List (View.Piece (Elt F) S32x1024 .f32)} (hL : Fills (sumAt R0 R1) n 64 Ls) : Summed R0 R1 (n + 1) ((accV).view.writes (Elt F) g Ls) := by
  intro y hy
  show (accV).view.read (Elt F) ((accV).view.writes (Elt F) g Ls) y = _
  by_cases hm : ∃ p ∈ Ls, y ∈ p.1.set
  · exact View.read_writes_apply_of_pieces (accV).view g (sumAt R0 R1) Ls hL.1 y hm
  · have hn : (y 0).val ≠ n := fun e => hm (hL.2 y e (y 1).isLt)
    rw [View.read_writes_apply_of_forall_not_mem (accV).view g y Ls fun p hp hy' => hm ⟨p, hp, hy'⟩]
    exact h y (by omega)

/-- Between two trips: the stages as they were, the sums' first `n` rows done. -/
abbrev trips (R0 R1 : Vec F S32x8x128 .f32) (d : Dev nD) (L : grid0.Coords) (n : ℕ) : sProp (MM F) :=
  iprop(∃ g : Buf (Elt F) ((accV).view.loc (VT d L)), ⌜Summed R0 R1 n g⌝ ∗ Stages d L R0 R1 g)

/-- It is held when that many rows are known to be done. -/
theorem trips_intro {R0 R1 : Vec F S32x8x128 .f32} {d : Dev nD} {L : grid0.Coords} {n : ℕ} {g : Buf (Elt F) ((accV).view.loc (VT d L))}
    (h : Summed R0 R1 n g) : Stages d L R0 R1 g ⊢ trips R0 R1 d L n := by
  iintro Hst
  iexists g
  isplitr [Hst]
  · ipureintro
    exact h
  · iexact Hst

/-- The pieces trip `k` of the first chunk's loop stores are row `k` of the sums. -/
theorem trip1_fills (d : Dev nD) (L : grid0.Coords) (k : Fin k0_t1_loop.trips) (R0 : Buf (Elt F) ((r0V).view.loc (VT d L))) (R1 : Buf (Elt F) ((r1V).view.loc (VT d L))) :
    Fills (sumAt R0 R1) k.val 64 (trip1 d L k R0 R1).1 := by
  unfold trip1
  dsimp only
  iterate 64 refine Fills.cons rfl rfl (by decide) ?_
  exact Fills.nil _ _

/-- One trip stores pieces that are row `k` of the sums. -/
theorem trip1_row (d : Dev nD) (L : grid0.Coords) (k : Fin k0_t1_loop.trips) (R0 : Buf (Elt F) ((r0V).view.loc (VT d L))) (R1 : Buf (Elt F) ((r1V).view.loc (VT d L))) :
    ∃ Ls : List (View.Piece (Elt F) S32x1024 .f32), Fills (sumAt R0 R1) k.val 64 Ls ∧ ∀ f : Buf (Elt F) ((accV).view.loc (VT d L)),
      Stages d L R0 R1 f ⊢ wp frame (wpE (defs₀ (F := F)) 𝒱₀ (VT d L) none) Set.univ
        (k0_t1_body L rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5 k ⟨⟩)
        fun _ => Stages d L R0 R1 ((accV).view.writes (Elt F) f Ls) :=
  ⟨_, trip1_fills d L k R0 R1, (trip1 d L k R0 R1).2⟩

/-- The first chunk's loop, from any contents of the sums to the sum of the two stages. -/
theorem loop1 (d : Dev nD) (L : grid0.Coords) (R0 : Buf (Elt F) ((r0V).view.loc (VT d L))) (R1 : Buf (Elt F) ((r1V).view.loc (VT d L)))
    (f : Buf (Elt F) ((accV).view.loc (VT d L))) {β : Type} {kk : PUnit.{1} → Prog (TpuEff nD τ sig (Elt F) Λ₀ (VT d L).2) β} {Q : β → sProp (MM F)} :
    Stages d L R0 R1 f ⊢ iprop((Stages d L R0 R1 (sumAt R0 R1) -∗ wp frame (wpE (defs₀ (F := F)) 𝒱₀ (VT d L) none) Set.univ (kk ⟨⟩) Q) -∗
      wp frame (wpE (defs₀ (F := F)) 𝒱₀ (VT d L) none) Set.univ
        (Scf.Loop.for k0_t1_loop k0_t1_ok ⟨⟩ (k0_t1_body L rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5) >>= kk) Q) := by
  iintro Hst HK
  have hstep : ∀ (k : Fin (Scf.trips k0_t1_loop.lb k0_t1_loop.ub k0_t1_loop.st)) (acc : PUnit.{1}), trips R0 R1 d L k.val ⊢ wp frame (wpE (defs₀ (F := F)) 𝒱₀ (VT d L) none) Set.univ
      (k0_t1_body L rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5 k acc) fun _ => trips R0 R1 d L (k.val + 1) := by
    intro k acc
    iintro ⟨%g, %hg, Hst⟩
    obtain ⟨Ls, hL, hrun⟩ := trip1_row d L k R0 R1
    have hgo := (hrun g).trans (wp_mono frame (wpE (defs₀ (F := F)) 𝒱₀ (VT d L) none) Set.univ fun _ => trips_intro (hg.step hL))
    iapply hgo $$ Hst
  sl_for (fun k (_ : PUnit.{1}) => trips R0 R1 d L k) $$ [Hst]
  case region =>
    intro k acc
    set_option maxRecDepth 20000 in exact hstep k acc
  · iapply (trips_intro (n := 0) fun y h => absurd h (Nat.not_lt_zero _)) $$ Hst
  · iintro %acc ⟨%g, %hg, Hst⟩
    obtain rfl : g = sumAt R0 R1 := funext fun y => hg y (y 0).isLt
    iapply HK $$ Hst

/-- The pieces trip `k` of the second chunk's loop stores are row `k` of the sums. -/
theorem trip2_fills (d : Dev nD) (L : grid0.Coords) (k : Fin k0_t2_loop.trips) (R0 : Buf (Elt F) ((r0V).view.loc (VT d L))) (R1 : Buf (Elt F) ((r1V).view.loc (VT d L))) :
    Fills (sumAt R0 R1) k.val 64 (trip2 d L k R0 R1).1 := by
  unfold trip2
  dsimp only
  iterate 64 refine Fills.cons rfl rfl (by decide) ?_
  exact Fills.nil _ _

/-- One trip stores pieces that are row `k` of the sums. -/
theorem trip2_row (d : Dev nD) (L : grid0.Coords) (k : Fin k0_t2_loop.trips) (R0 : Buf (Elt F) ((r0V).view.loc (VT d L))) (R1 : Buf (Elt F) ((r1V).view.loc (VT d L))) :
    ∃ Ls : List (View.Piece (Elt F) S32x1024 .f32), Fills (sumAt R0 R1) k.val 64 Ls ∧ ∀ f : Buf (Elt F) ((accV).view.loc (VT d L)),
      Stages d L R0 R1 f ⊢ wp frame (wpE (defs₀ (F := F)) 𝒱₀ (VT d L) none) Set.univ
        (k0_t2_body L rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5 k ⟨⟩)
        fun _ => Stages d L R0 R1 ((accV).view.writes (Elt F) f Ls) :=
  ⟨_, trip2_fills d L k R0 R1, (trip2 d L k R0 R1).2⟩

/-- The second chunk's loop, from any contents of the sums to the sum of the two stages. -/
theorem loop2 (d : Dev nD) (L : grid0.Coords) (R0 : Buf (Elt F) ((r0V).view.loc (VT d L))) (R1 : Buf (Elt F) ((r1V).view.loc (VT d L)))
    (f : Buf (Elt F) ((accV).view.loc (VT d L))) {β : Type} {kk : PUnit.{1} → Prog (TpuEff nD τ sig (Elt F) Λ₀ (VT d L).2) β} {Q : β → sProp (MM F)} :
    Stages d L R0 R1 f ⊢ iprop((Stages d L R0 R1 (sumAt R0 R1) -∗ wp frame (wpE (defs₀ (F := F)) 𝒱₀ (VT d L) none) Set.univ (kk ⟨⟩) Q) -∗
      wp frame (wpE (defs₀ (F := F)) 𝒱₀ (VT d L) none) Set.univ
        (Scf.Loop.for k0_t2_loop k0_t2_ok ⟨⟩ (k0_t2_body L rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5) >>= kk) Q) := by
  iintro Hst HK
  have hstep : ∀ (k : Fin (Scf.trips k0_t2_loop.lb k0_t2_loop.ub k0_t2_loop.st)) (acc : PUnit.{1}), trips R0 R1 d L k.val ⊢ wp frame (wpE (defs₀ (F := F)) 𝒱₀ (VT d L) none) Set.univ
      (k0_t2_body L rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5 k acc) fun _ => trips R0 R1 d L (k.val + 1) := by
    intro k acc
    iintro ⟨%g, %hg, Hst⟩
    obtain ⟨Ls, hL, hrun⟩ := trip2_row d L k R0 R1
    have hgo := (hrun g).trans (wp_mono frame (wpE (defs₀ (F := F)) 𝒱₀ (VT d L) none) Set.univ fun _ => trips_intro (hg.step hL))
    iapply hgo $$ Hst
  sl_for (fun k (_ : PUnit.{1}) => trips R0 R1 d L k) $$ [Hst]
  case region =>
    intro k acc
    set_option maxRecDepth 20000 in exact hstep k acc
  · iapply (trips_intro (n := 0) fun y h => absurd h (Nat.not_lt_zero _)) $$ Hst
  · iintro %acc ⟨%g, %hg, Hst⟩
    obtain rfl : g = sumAt R0 R1 := funext fun y => hg y (y 0).isLt
    iapply HK $$ Hst

end Cert.Proof.Combine

end
-- ==== Proof.Tile.lean ====
/-
  One task of the combine: the two index lists fetched, the rows gathered by them, the sums taken, the block of the result written,
  once for each of its two chunks of thirty-two rows.
-/
module

public import proofs.«01_k».proof.Proof.Trip

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## What is computed -/

/-- Entry `c` of expert row `w`, the rows laid as eight lines of 128. -/
def rowAt (w : BitVec 32) (c : Fin 1024) : S6144x8x128.Idx
  | 0 => ⟨w.toNat % 6144, Nat.mod_lt _ (by decide)⟩
  | 1 => ⟨c.val / 128, (Nat.div_lt_iff_lt_mul (by decide)).2 c.isLt⟩
  | 2 => ⟨c.val % 128, Nat.mod_lt _ (by decide)⟩

/-- Place `r` of a list of positions. -/
def posIx (r : Fin 2048) : S2048.Idx
  | 0 => r

/-- The result: row `r` is the sum of the expert rows its two positions name. -/
def combined (X : Vec F S6144x8x128 .f32) (p0 p1 : Vec F S2048 .i32) : Vec F S2048x1024 .f32 :=
  fun y => FloatOps.addf (X (rowAt (p0 (posIx (y 0))) (y 1))) (X (rowAt (p1 (posIx (y 0))) (y 1)))

/-- Every position names a row. -/
def InRows (p : Vec F S2048 .i32) : Prop := ∀ j, (p j).toNat < 6144

/-- Where a staged entry lies among the expert rows, when its row is number `w`. -/
def lineAt (w : BitVec 32) (z : S32x8x128.Idx) : S6144x8x128.Idx
  | 0 => ⟨w.toNat % 6144, Nat.mod_lt _ (by decide)⟩
  | 1 => z 1
  | 2 => z 2

/-- Place `r` of an index list. -/
def listIx (r : Fin 32) : S32.Idx
  | 0 => r

/-- The stage after the four gathers by the list `w`: line by line, the rows the list names. -/
def staged (X : Vec F S6144x8x128 .f32) (w : Vec F S32 .i32) : Vec F S32x8x128 .f32 :=
  fun z => X (lineAt (w (listIx (z 0))) z)

/-- One gather, of the two lines from line `k` on, by the list `w`: what it brings is those two lines of the stage. -/
theorem gathered (X : Vec F S6144x8x128 .f32) (w : Vec F S32 .i32) (k : ℕ) (hk h0 hr hr' hk')
    (hn : S32.numel = S32x2x128.size gathers_S6144x2x128_S32x2x128.axis')
    (hw : ∀ x, (w x).toNat < S6144x2x128.size gathers_S6144x2x128_S32x2x128.axis) (x : S32x2x128.Idx) :
    SparseCore.gatherPayload gathers_S6144x2x128_S32x2x128
      ((((rowsV).slice (Rect.unit (s := S6144x8x128) ![0, k, 0] S6144x2x128.size hk) hr).slice
        (Rect.unit (s := S6144x2x128) ![0, 0, 0] S6144x2x128.size h0) hr').view.read (Elt F) X)
      (SparseCore.rows (F := F) w hn hw) x
      = staged X w ((Rect.unit (s := S32x8x128) ![0, k, 0] S32x2x128.size hk').emb x) := by
  have x0 : (x 0).val < 32 := (x 0).isLt
  have hl : S32.rowMajor.symm ((x gathers_S6144x2x128_S32x2x128.axis').cast hn.symm) = listIx ⟨(x 0).val, x0⟩ := by
    rw [Equiv.symm_apply_eq]
    apply Fin.ext
    rw [Shape.rowMajor_val_one]
    rfl
  have i0 : ((gathers_S6144x2x128_S32x2x128.idx (SparseCore.rows (F := F) w hn hw) x) 0).val = (w (listIx ⟨(x 0).val, x0⟩)).toNat := by
    rw [← hl]
    exact congrArg Fin.val (Shape.Gathers.idx_axis gathers_S6144x2x128_S32x2x128 (SparseCore.rows (F := F) w hn hw) x)
  have i1 : ((gathers_S6144x2x128_S32x2x128.idx (SparseCore.rows (F := F) w hn hw) x) 1).val = (x 1).val :=
    Shape.Gathers.idx_of_ne gathers_S6144x2x128_S32x2x128 (SparseCore.rows (F := F) w hn hw) x 1 (by decide)
  have i2 : ((gathers_S6144x2x128_S32x2x128.idx (SparseCore.rows (F := F) w hn hw) x) 2).val = (x 2).val :=
    Shape.Gathers.idx_of_ne gathers_S6144x2x128_S32x2x128 (SparseCore.rows (F := F) w hn hw) x 2 (by decide)
  have hlt := hw (listIx ⟨(x 0).val, x0⟩)
  rw [SparseCore.gatherPayload]
  generalize gathers_S6144x2x128_S32x2x128.idx (SparseCore.rows (F := F) w hn hw) x = j at i0 i1 i2 ⊢
  have e : ∀ z : S32x8x128.Idx, (z 0).val = (x 0).val → (z 1).val = k + (x 1).val → (z 2).val = (x 2).val →
      ∀ y : S6144x8x128.Idx, (y 0).val = (j 0).val → (y 1).val = k + (j 1).val → (y 2).val = (j 2).val → X y = staged X w z := by
    intro z z0 z1 z2 y y0 y1 y2
    refine congrArg X (funext fun a => Fin.ext ?_)
    have ez : z 0 = (⟨(x 0).val, x0⟩ : Fin 32) := Fin.ext z0
    match a with
    | 0 =>
      show (y 0).val = (w (listIx (z 0))).toNat % 6144
      rw [ez, y0, i0]
      exact (Nat.mod_eq_of_lt hlt).symm
    | 1 => exact (y1.trans (congrArg (k + ·) i1)).trans z1.symm
    | 2 => exact (y2.trans i2).trans z2.symm
  refine e _ ?_ ?_ ?_ _ ?_ ?_ ?_
  · show 0 + 1 * (x 0).val = _; omega
  · show k + 1 * (x 1).val = _; omega
  · show 0 + 1 * (x 2).val = _; omega
  · show 0 + 1 * (0 + 1 * (j 0).val) = _; omega
  · show k + 1 * (0 + 1 * (j 1).val) = _; omega
  · show 0 + 1 * (0 + 1 * (j 2).val) = _; omega

/-- Four pieces of two lines each make up the whole stage. -/
theorem staged_of_pieces {sp : Space} (v : View sig .scVector sp S32x8x128 .f32) (f : v.ty.Contents (Elt F)) (G : Vec F S32x8x128 .f32)
    (h6 h4 h2 h0) (w6 w4 w2 w0 : Vec F S32x2x128 .f32)
    (e6 : ∀ x, w6 x = G ((Rect.unit (s := S32x8x128) ![0, 6, 0] S32x2x128.size h6).emb x))
    (e4 : ∀ x, w4 x = G ((Rect.unit (s := S32x8x128) ![0, 4, 0] S32x2x128.size h4).emb x))
    (e2 : ∀ x, w2 x = G ((Rect.unit (s := S32x8x128) ![0, 2, 0] S32x2x128.size h2).emb x))
    (e0 : ∀ x, w0 x = G ((Rect.unit (s := S32x8x128) ![0, 0, 0] S32x2x128.size h0).emb x)) :
    v.read (Elt F) (v.writes (Elt F) f [⟨Rect.unit (s := S32x8x128) ![0, 6, 0] S32x2x128.size h6, w6⟩, ⟨Rect.unit (s := S32x8x128) ![0, 4, 0] S32x2x128.size h4, w4⟩,
      ⟨Rect.unit (s := S32x8x128) ![0, 2, 0] S32x2x128.size h2, w2⟩, ⟨Rect.unit (s := S32x8x128) ![0, 0, 0] S32x2x128.size h0, w0⟩]) = G := by
  funext z
  have key : ∀ (k : ℕ) (hk), k ≤ (z 1).val → (z 1).val < k + 2 → z ∈ (Rect.unit (s := S32x8x128) ![0, k, 0] S32x2x128.size hk).set := by
    intro k hk hlo hhi
    rw [Rect.mem_set_unit]
    have z0 : (z 0).val < 32 := (z 0).isLt
    have z2 : (z 2).val < 128 := (z 2).isLt
    intro a
    match a with
    | 0 => show 0 ≤ (z 0).val ∧ (z 0).val < 0 + 32; omega
    | 1 => show k ≤ (z 1).val ∧ (z 1).val < k + 2; omega
    | 2 => show 0 ≤ (z 2).val ∧ (z 2).val < 0 + 128; omega
  refine View.read_writes_apply_of_pieces v f G _ ?_ z ?_
  · simp only [List.forall_mem_cons]
    exact ⟨e6, e4, e2, e0, fun _ h => absurd h List.not_mem_nil⟩
  · have z1 : (z 1).val < 8 := (z 1).isLt
    rcases (by omega : 6 ≤ (z 1).val ∨ (4 ≤ (z 1).val ∧ (z 1).val < 4 + 2) ∨ (2 ≤ (z 1).val ∧ (z 1).val < 2 + 2) ∨ (z 1).val < 0 + 2) with h | h | h | h
    · refine ⟨_, List.Mem.head _, ?_⟩
      exact key 6 h6 h (by omega)
    · refine ⟨_, List.Mem.tail _ (List.Mem.head _), ?_⟩
      exact key 4 h4 h.1 h.2
    · refine ⟨_, List.Mem.tail _ (List.Mem.tail _ (List.Mem.head _)), ?_⟩
      exact key 2 h2 h.1 h.2
    · refine ⟨_, List.Mem.tail _ (List.Mem.tail _ (List.Mem.tail _ (List.Mem.head _))), ?_⟩
      exact key 0 h0 (Nat.zero_le _) h

section Tile

variable (d : Dev nD) (L : grid0.Coords)

/-- The two blocks of the result the task writes, and the two pieces of a position list it reads, as the body slices them. -/
abbrev out0 (L : grid0.Coords) : Memref sig .scVector .hbm S32x1024 .f32 :=
  (outV).slice (Rect.unit (s := S2048x1024) (k0_off130 L 0#32) S32x1024.size (k0_off130_inb L 0)) (fun _ => rfl)
abbrev out1 (L : grid0.Coords) : Memref sig .scVector .hbm S32x1024 .f32 :=
  (outV).slice (Rect.unit (s := S2048x1024) (k0_off130 L 32#32) S32x1024.size (k0_off130_inb L 1)) (fun _ => rfl)

abbrev csem (k : Nat) (hk : k < 7 := by decide) : DmaSem sig := ⟨k, hk⟩
/-- The seven transfer cells at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0)

/-- The first row of chunk `k` of the task. -/
def base (L : grid0.Coords) (k : Fin 2) : ℕ := 128 * (L 1).val + 64 * (L 0).val + 32 * k.val

theorem base_lt (L : grid0.Coords) (k : Fin 2) (r : Fin 32) : base L k + r.val < 2048 := by
  have h1 : (L 1).val < 16 := (L 1).isLt
  have h0 : (L 0).val < 2 := (L 0).isLt
  have := k.isLt
  have := r.isLt
  unfold base
  omega

/-- The chunk's piece of a position list. -/
def fetched (p : Vec F S2048 .i32) (L : grid0.Coords) (k : Fin 2) : Vec F S32 .i32 :=
  fun x => p (posIx ⟨base L k + (x 0).val, base_lt L k (x 0)⟩)

theorem fetched_lt (p : Vec F S2048 .i32) (h : InRows (F := F) p) (k : Fin 2) (x : S32.Idx) : (fetched p L k x).toNat < 6144 := h _

/-- What the fetch of chunk `k`'s piece of position list 0 lands. -/
theorem fetch0_eq (p : Vec F S2048 .i32) (k : Fin 2) (hr) :
    ReadAs.same.apply (((p0V).slice (Rect.unit (s := S2048) (k0_off1 L (BitVec.ofNat 32 (32 * k.val))) S32.size (k0_off1_inb L k)) hr).view.read (Elt F) p)
      = fetched p L k := by
  funext x
  refine congrArg p (funext fun a => Fin.ext ?_)
  match a with
  | 0 =>
    have e : k0_off1 L (BitVec.ofNat 32 (32 * k.val)) 0 = base L k := congrFun (k0_off1_eq L k) 0
    exact (congrArg (· + 1 * (x 0).val) e).trans (congrArg (base L k + ·) (Nat.one_mul _))

/-- The index list after that fetch, -/
theorem list0_eq (g : Buf (Elt F) ((i0V).view.loc (VT d L))) (pay w : Vec F S32 .i32) (hp : pay = w) :
    (i0V).view.read (Elt F) (View.write (Elt F) (i0V).view g pay Finset.univ) = w := by
  rw [View.write_whole_univ]
  exact hp

/-- and its words name rows. -/
theorem idx0_lt (p : Vec F S2048 .i32) (h : InRows (F := F) p) (k : Fin 2) (pay : Vec F S32 .i32) (hp : pay = fetched p L k)
    (g : Buf (Elt F) ((i0V).view.loc (VT d L))) :
    ∀ x, ((i0V).view.read (Elt F) (View.write (Elt F) (i0V).view g pay Finset.univ) x).toNat < S6144x2x128.size gathers_S6144x2x128_S32x2x128.axis := by
  intro x
  rw [list0_eq d L g pay _ hp]
  exact fetched_lt L p h k x

/-- What the fetch of chunk `k`'s piece of position list 1 lands. -/
theorem fetch1_eq (p : Vec F S2048 .i32) (k : Fin 2) (hr) :
    ReadAs.same.apply (((p1V).slice (Rect.unit (s := S2048) (k0_off1 L (BitVec.ofNat 32 (32 * k.val))) S32.size (k0_off1_inb L k)) hr).view.read (Elt F) p)
      = fetched p L k := by
  funext x
  refine congrArg p (funext fun a => Fin.ext ?_)
  match a with
  | 0 =>
    have e : k0_off1 L (BitVec.ofNat 32 (32 * k.val)) 0 = base L k := congrFun (k0_off1_eq L k) 0
    exact (congrArg (· + 1 * (x 0).val) e).trans (congrArg (base L k + ·) (Nat.one_mul _))

/-- The index list after that fetch, -/
theorem list1_eq (g : Buf (Elt F) ((i1V).view.loc (VT d L))) (pay w : Vec F S32 .i32) (hp : pay = w) :
    (i1V).view.read (Elt F) (View.write (Elt F) (i1V).view g pay Finset.univ) = w := by
  rw [View.write_whole_univ]
  exact hp

/-- and its words name rows. -/
theorem idx1_lt (p : Vec F S2048 .i32) (h : InRows (F := F) p) (k : Fin 2) (pay : Vec F S32 .i32) (hp : pay = fetched p L k)
    (g : Buf (Elt F) ((i1V).view.loc (VT d L))) :
    ∀ x, ((i1V).view.read (Elt F) (View.write (Elt F) (i1V).view g pay Finset.univ) x).toNat < S6144x2x128.size gathers_S6144x2x128_S32x2x128.axis := by
  intro x
  rw [list1_eq d L g pay _ hp]
  exact fetched_lt L p h k x

/-- An entry of the chunk's block is the sum of the two staged entries it is made from, -/
theorem combined_at (X : Vec F S6144x8x128 .f32) (p0 p1 : Vec F S2048 .i32) (k : Fin 2) (x : S32x1024.Idx) (y : S2048x1024.Idx)
    (e0 : (y 0).val = base L k + (x 0).val) (e1 : (y 1).val = (x 1).val) :
    sumAt (staged X (fetched p0 L k)) (staged X (fetched p1 L k)) x = combined X p0 p1 y := by
  have ey : y = fun | 0 => (⟨base L k + (x 0).val, base_lt L k (x 0)⟩ : Fin 2048) | 1 => (x 1 : Fin 1024) :=
    funext fun a => match a with
      | 0 => Fin.ext e0
      | 1 => Fin.ext e1
  have el : ∀ w : BitVec 32, lineAt w (fold8 x) = rowAt w (x 1) := fun w => funext fun a => match a with
      | 0 => rfl
      | 1 => rfl
      | 2 => rfl
  rw [ey]
  exact congrArg₂ FloatOps.addf (congrArg X (el _)) (congrArg X (el _))

omit [FloatOps F] in
/-- A block written whole reads back as what was written. -/
theorem read_whole_piece {sp : Space} (v : View sig .scVector sp S32x1024 .f32) (f : v.ty.Contents (Elt F)) (w : Vec F S32x1024 .f32) (x : S32x1024.Idx) :
    v.read (Elt F) (v.writes (Elt F) f [⟨Rect.whole S32x1024, w⟩]) x = w x := by
  refine View.read_writes_apply_of_pieces v f w _ ?_ x ⟨_, List.mem_singleton_self _, ?_⟩
  · intro p hp y
    obtain rfl := List.mem_singleton.mp hp
    exact congrArg w (Rect.emb_whole_apply _ y).symm
  · rw [Rect.set_whole]
    exact Finset.mem_univ x

/-- so what the copy of the sums writes into the block is the result there. -/
theorem written (X : Vec F S6144x8x128 .f32) (p0 p1 : Vec F S2048 .i32) (k : Fin 2) (o : Fin 2 → ℕ) (ho : o = ![base L k, 0]) (hi hr)
    (f : Buf (Elt F) ((outV).view.loc (VT d L))) (w : Vec F S32x1024 .f32)
    (hw : w = sumAt (staged X (fetched p0 L k)) (staged X (fetched p1 L k))) :
    ∀ y ∈ ((outV).slice (Rect.unit (s := S2048x1024) o S32x1024.size hi) hr).view.set,
      ((outV).slice (Rect.unit (s := S2048x1024) o S32x1024.size hi) hr).view.writes (Elt F) f [⟨Rect.whole S32x1024, w⟩] y = combined X p0 p1 y := by
  intro y hy
  obtain ⟨x, -, rfl⟩ := Finset.mem_map.mp hy
  subst ho
  have h1 := read_whole_piece ((outV).slice (Rect.unit (s := S2048x1024) ![base L k, 0] S32x1024.size hi) hr).view f w x
  have h2 := combined_at L X p0 p1 k x ((Rect.unit (s := S2048x1024) ![base L k, 0] S32x1024.size hi).emb x)
    (show base L k + 1 * (x 0).val = base L k + (x 0).val by rw [Nat.one_mul]) (show 0 + 1 * (x 1).val = (x 1).val by omega)
  have h3 := h1.trans ((congrFun hw x).trans h2)
  generalize ((outV).slice (Rect.unit (s := S2048x1024) ![base L k, 0] S32x1024.size hi) hr).view.writes (Elt F) f [⟨Rect.whole S32x1024, w⟩] = g at h3 ⊢
  generalize combined X p0 p1 = G at h3 ⊢
  exact h3

set_option maxHeartbeats 4000000 in
/-- The task's body, from the pieces the launch deals it. -/
theorem tile_run (q : PosShare TreeShare) (X : Buf (Elt F) ((rowsV).view.loc (VT d L))) (p0 : Buf (Elt F) ((p0V).view.loc (VT d L)))
    (p1 : Buf (Elt F) ((p1V).view.loc (VT d L))) (fo : Buf (Elt F) ((outV).view.loc (VT d L))) (h0 : InRows (F := F) p0) (h1 : InRows (F := F) p1)
    (O : CellTallies nD τ sig (HIx 1)) (W : Waits sig (HIx 1))
    (g0 : Buf (Elt F) ((i0V).view.loc (VT d L))) (g1 : Buf (Elt F) ((i1V).view.loc (VT d L)))
    (t0 : Buf (Elt F) ((r0V).view.loc (VT d L))) (t1 : Buf (Elt F) ((r1V).view.loc (VT d L))) (a : Buf (Elt F) ((accV).view.loc (VT d L))) :
    (iprop(Transfers.MayWaits (VT d L) (default : HIx 1) O
        ∗ ((rowsV).view.loc (VT d L) ↦{q} X)
        ∗ ((p0V).view.loc (VT d L) ↦{q} p0)
        ∗ ((p1V).view.loc (VT d L) ↦{q} p1)
        ∗ ((out0 L).view.loc (VT d L) ↦[(out0 L).view.set]{fullShare} fo)
        ∗ ((out1 L).view.loc (VT d L) ↦[(out1 L).view.set]{fullShare} fo)
        ∗ ((i0V).view.loc (VT d L) ↦{fullShare} g0)
        ∗ ((i1V).view.loc (VT d L) ↦{fullShare} g1)
        ∗ ((r0V).view.loc (VT d L) ↦{fullShare} t0)
        ∗ ((r1V).view.loc (VT d L) ↦{fullShare} t1)
        ∗ ((accV).view.loc (VT d L) ↦{fullShare} a)
        ∗ cells0 d L
        ∗ owes (VT d L) O W) : sProp 𝕄)
      ⊢ wp frame (wpE (defs₀ (F := F)) 𝒱₀ (VT d L) none) Set.univ
          (cc0__combine_body L rowsV (Memref.isWhole_whole _) p0V (Memref.isWhole_whole _) p1V (Memref.isWhole_whole _) outV (Memref.isWhole_whole _)
            i0V (Memref.isWhole_whole _) i1V (Memref.isWhole_whole _) r0V (Memref.isWhole_whole _) r1V (Memref.isWhole_whole _) accV (Memref.isWhole_whole _)
            cc0_scratch5 cc0_scoped0 cc0_scoped1 cc0_scoped2 cc0_scoped3 cc0_scoped4 cc0_scoped5)
          fun _ => iprop(((rowsV).view.loc (VT d L) ↦{q} X)
            ∗ ((p0V).view.loc (VT d L) ↦{q} p0)
            ∗ ((p1V).view.loc (VT d L) ↦{q} p1)
            ∗ ((out0 L).view.loc (VT d L) ↦[(out0 L).view.set]{fullShare} combined X p0 p1)
            ∗ ((out1 L).view.loc (VT d L) ↦[(out1 L).view.set]{fullShare} combined X p0 p1)
            ∗ (∃ g, (i0V).view.loc (VT d L) ↦{fullShare} g)
            ∗ (∃ g, (i1V).view.loc (VT d L) ↦{fullShare} g)
            ∗ (∃ g, (r0V).view.loc (VT d L) ↦{fullShare} g)
            ∗ (∃ g, (r1V).view.loc (VT d L) ↦{fullShare} g)
            ∗ (∃ g, (accV).view.loc (VT d L) ↦{fullShare} g)
            ∗ cells0 d L
            ∗ ∃ W', owes (VT d L) O W') := by
  iintro ⟨#Hmw, HX, HP0, HP1, HO0, HO1, HI0, HI1, HR0, HR1, HA, ⟨Hc0, Hc1, Hc2, Hc3, Hc4, Hc5, Hc6⟩, HO⟩
  sl_unfold [cc0__combine_body]
  sl_exec
  have hf0 : tile_run.sl.dma0 d L p0 = fetched p0 L 0 := fetch0_eq L p0 0 _
  have hf1 : tile_run.sl.dma0_1 d L p1 = fetched p1 L 0 := fetch1_eq L p1 0 _
  have hidx0 := idx0_lt d L p0 h0 0 _ hf0
  have hidx1 := idx1_lt d L p1 h1 0 _ hf1
  sl_exec
  have hl0 := list0_eq d L g0 _ _ hf0
  have hl1 := list1_eq d L g1 _ _ hf1
  have hs0 := staged_of_pieces (r0V).view (r0V).view.junk (staged X (fetched p0 L 0)) inb_S32x8x128_S32x2x128_0_6_0 inb_S32x8x128_S32x2x128_0_4_0
    inb_S32x8x128_S32x2x128_0_2_0 inb_S32x8x128_S32x2x128_0_0_0 (tile_run.sl.gather3 d L X p0 g0 hidx0) (tile_run.sl.gather2 d L X p0 g0 hidx0)
    (tile_run.sl.gather1 d L X p0 g0 hidx0) (tile_run.sl.gather0 d L X p0 g0 hidx0)
    (fun x => hl0 ▸ gathered X _ 6 _ _ _ _ _ _ _ x) (fun x => hl0 ▸ gathered X _ 4 _ _ _ _ _ _ _ x)
    (fun x => hl0 ▸ gathered X _ 2 _ _ _ _ _ _ _ x) (fun x => hl0 ▸ gathered X _ 0 _ _ _ _ _ _ _ x)
  have hs1 := staged_of_pieces (r1V).view (r1V).view.junk (staged X (fetched p1 L 0)) inb_S32x8x128_S32x2x128_0_6_0 inb_S32x8x128_S32x2x128_0_4_0
    inb_S32x8x128_S32x2x128_0_2_0 inb_S32x8x128_S32x2x128_0_0_0 (tile_run.sl.gather7 d L X p1 g1 hidx1) (tile_run.sl.gather6 d L X p1 g1 hidx1)
    (tile_run.sl.gather5 d L X p1 g1 hidx1) (tile_run.sl.gather4 d L X p1 g1 hidx1)
    (fun x => hl1 ▸ gathered X _ 6 _ _ _ _ _ _ _ x) (fun x => hl1 ▸ gathered X _ 4 _ _ _ _ _ _ _ x)
    (fun x => hl1 ▸ gathered X _ 2 _ _ _ _ _ _ _ x) (fun x => hl1 ▸ gathered X _ 0 _ _ _ _ _ _ _ x)
  ihave HS0 := (Entails.of_eq (congrArg (fun g => ((r0V).view.loc (VT d L) ↦{fullShare} g : sProp 𝕄)) (show (r0V).view.writes (Elt F) _ _ = _ from hs0))) $$ HR0
  ihave HS1 := (Entails.of_eq (congrArg (fun g => ((r1V).view.loc (VT d L) ↦{fullShare} g : sProp 𝕄)) (show (r1V).view.writes (Elt F) _ _ = _ from hs1))) $$ HR1
  iapply (loop1 d L (staged X (fetched p0 L 0)) (staged X (fetched p1 L 0)) a) $$ [HS0 HS1 HA]
  · isplitl [HS0]
    · iexact HS0
    isplitl [HS1]
    · iexact HS1
    iexact HA
  iintro ⟨HR0, HR1, HA⟩
  sl_exec
  have hf2 : tile_run.sl.dma0_3 d L p0 = fetched p0 L 1 := fetch0_eq L p0 1 _
  have hf3 : tile_run.sl.dma0_4 d L p1 = fetched p1 L 1 := fetch1_eq L p1 1 _
  have hidx2 := idx0_lt d L p0 h0 1 _ hf2 (View.write (Elt F) (i0V).view g0 (tile_run.sl.dma0 d L p0) Finset.univ)
  have hidx3 := idx1_lt d L p1 h1 1 _ hf3 (View.write (Elt F) (i1V).view g1 (tile_run.sl.dma0_1 d L p1) Finset.univ)
  sl_exec
  have hl2 := list0_eq d L (View.write (Elt F) (i0V).view g0 (tile_run.sl.dma0 d L p0) Finset.univ) _ _ hf2
  have hl3 := list1_eq d L (View.write (Elt F) (i1V).view g1 (tile_run.sl.dma0_1 d L p1) Finset.univ) _ _ hf3
  have hs2 := staged_of_pieces (r0V).view (r0V).view.junk (staged X (fetched p0 L 1)) inb_S32x8x128_S32x2x128_0_6_0 inb_S32x8x128_S32x2x128_0_4_0
    inb_S32x8x128_S32x2x128_0_2_0 inb_S32x8x128_S32x2x128_0_0_0 (tile_run.sl.gather3_1 d L X p0 g0 hidx2) (tile_run.sl.gather2_1 d L X p0 g0 hidx2)
    (tile_run.sl.gather1_1 d L X p0 g0 hidx2) (tile_run.sl.gather0_1 d L X p0 g0 hidx2)
    (fun x => hl2 ▸ gathered X _ 6 _ _ _ _ _ _ _ x) (fun x => hl2 ▸ gathered X _ 4 _ _ _ _ _ _ _ x)
    (fun x => hl2 ▸ gathered X _ 2 _ _ _ _ _ _ _ x) (fun x => hl2 ▸ gathered X _ 0 _ _ _ _ _ _ _ x)
  have hs3 := staged_of_pieces (r1V).view (r1V).view.junk (staged X (fetched p1 L 1)) inb_S32x8x128_S32x2x128_0_6_0 inb_S32x8x128_S32x2x128_0_4_0
    inb_S32x8x128_S32x2x128_0_2_0 inb_S32x8x128_S32x2x128_0_0_0 (tile_run.sl.gather7_1 d L X p1 g1 hidx3) (tile_run.sl.gather6_1 d L X p1 g1 hidx3)
    (tile_run.sl.gather5_1 d L X p1 g1 hidx3) (tile_run.sl.gather4_1 d L X p1 g1 hidx3)
    (fun x => hl3 ▸ gathered X _ 6 _ _ _ _ _ _ _ x) (fun x => hl3 ▸ gathered X _ 4 _ _ _ _ _ _ _ x)
    (fun x => hl3 ▸ gathered X _ 2 _ _ _ _ _ _ _ x) (fun x => hl3 ▸ gathered X _ 0 _ _ _ _ _ _ _ x)
  ihave HS0 := (Entails.of_eq (congrArg (fun g => ((r0V).view.loc (VT d L) ↦{fullShare} g : sProp 𝕄)) (show (r0V).view.writes (Elt F) _ _ = _ from hs2))) $$ HR0
  ihave HS1 := (Entails.of_eq (congrArg (fun g => ((r1V).view.loc (VT d L) ↦{fullShare} g : sProp 𝕄)) (show (r1V).view.writes (Elt F) _ _ = _ from hs3))) $$ HR1
  iapply (loop2 d L (staged X (fetched p0 L 1)) (staged X (fetched p1 L 1)) (sumAt (staged X (fetched p0 L 0)) (staged X (fetched p1 L 0)))) $$ [HS0 HS1 HA]
  · isplitl [HS0]
    · iexact HS0
    isplitl [HS1]
    · iexact HS1
    iexact HA
  iintro ⟨HR0, HR1, HA⟩
  sl_exec
  ihave HB0 := (Entails.of_eq (pointsTo_congr (written d L X p0 p1 0 _ (k0_off130_eq L 0) _ _ _ _ rfl))) $$ HO0
  ihave HB1 := (Entails.of_eq (pointsTo_congr (written d L X p0 p1 1 _ (k0_off130_eq L 1) _ _ _ _ rfl))) $$ HO1
  sl_step
  sl_close

end Tile

end Cert.Proof.Combine

end
-- ==== Proof.Blocks.lean ====
/-
  What the call hands its tasks and gets back: to each task a read share of the expert rows and of the two position lists and its two
  blocks of the result, and the same back with the blocks holding the sums.
-/
module

public import proofs.«01_k».proof.Proof.Tile
public import Idealize.ShloMosaic.Lib.ShareLeaves
public import Idealize.ShloMosaic.Lib.SparseCore.Quiescent

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MM F

variable (m : (ℓ : Loc nD τ sig) → Buf (Elt F) ℓ)

/-! ## The arrays of the call -/

abbrev xLoc (d : Dev nD) : Loc nD τ sig := (SparseCore.T d : Thread nD τ).loc main_v4
abbrev aLoc (d : Dev nD) : Loc nD τ sig := (SparseCore.T d : Thread nD τ).loc main_v1
abbrev bLoc (d : Dev nD) : Loc nD τ sig := (SparseCore.T d : Thread nD τ).loc main_v3
abbrev oLoc (d : Dev nD) : Loc nD τ sig := (SparseCore.T d : Thread nD τ).loc main_v5
abbrev rowsLoc (d : Dev nD) : Loc nD τ sig := (SparseCore.T d : Thread nD τ).loc main_arg0
abbrev posLoc (d : Dev nD) : Loc nD τ sig := (SparseCore.T d : Thread nD τ).loc main_arg1

/-- The expert rows laid as eight lines of 128 each, and the two columns of positions. -/
def rowsOf (d : Dev nD) : Vec F S6144x8x128 .f32 := shapeCast S6144x8x128 (m (rowsLoc d)) shapeCasts_S6144x1024_S6144x8x128
def pos0Of (d : Dev nD) : Vec F S2048 .i32 :=
  shapeCast S2048 (extractStridedSlice S2048x1 ![0, 0] (m (posLoc d)) slices_S2048x2_S2048x1_0_0) shapeCasts_S2048x1_S2048
def pos1Of (d : Dev nD) : Vec F S2048 .i32 :=
  shapeCast S2048 (extractStridedSlice S2048x1 ![0, 1] (m (posLoc d)) slices_S2048x2_S2048x1_0_1) shapeCasts_S2048x1_S2048
/-- The result. -/
def sumsOf (d : Dev nD) : Vec F S2048x1024 .f32 := combined (rowsOf m d) (pos0Of m d) (pos1Of m d)

/-! ## The blocks of the result -/

def blkOff (c : Fin 2) (i : Fin 16) (k : Fin 2) : Fin 2 → ℕ := ![128 * i.val + 64 * c.val + 32 * k.val, 0]

theorem blk_inb (c : Fin 2) (i : Fin 16) (k : Fin 2) : ∀ a, blkOff c i k a + S32x1024.size a ≤ S2048x1024.size a := by
  have := c.isLt
  have := i.isLt
  have := k.isLt
  intro a
  match a with
  | 0 => show 128 * i.val + 64 * c.val + 32 * k.val + 32 ≤ 2048; omega
  | 1 => show 0 + 1024 ≤ 1024; omega

/-- Block `k` of task `i` of core `c`. -/
abbrev blkSet (c : Fin 2) (i : Fin 16) (k : Fin 2) : Finset S2048x1024.Idx :=
  ((outV).slice (Rect.unit (s := S2048x1024) (blkOff c i k) S32x1024.size (blk_inb c i k)) (fun _ => rfl)).view.set

/-- A slice's elements depend on its offsets alone. -/
theorem set_of_off (o o' : Fin 2 → ℕ) (h : o = o') (hi hi') :
    ((outV).slice (Rect.unit (s := S2048x1024) o S32x1024.size hi) (fun _ => rfl)).view.set
      = ((outV).slice (Rect.unit (s := S2048x1024) o' S32x1024.size hi') (fun _ => rfl)).view.set := by
  subst h; rfl

/-- It is thirty-two rows, whole. -/
theorem mem_blkSet (c : Fin 2) (i : Fin 16) (k : Fin 2) (y : S2048x1024.Idx) :
    y ∈ blkSet c i k ↔ 128 * i.val + 64 * c.val + 32 * k.val ≤ (y 0).val ∧ (y 0).val < 128 * i.val + 64 * c.val + 32 * k.val + 32 := by
  have e : blkSet c i k = (Rect.unit (s := S2048x1024) (blkOff c i k) S32x1024.size (blk_inb c i k)).set := by
    show ((View.whole (main_v5_scv : Ref sig .scVector)).slice _).set = _
    rw [View.set_slice]
    exact Finset.map_refl
  rw [e, Rect.mem_set_unit]
  have y1 : (y 1).val < 1024 := (y 1).isLt
  constructor
  · exact fun h => h 0
  · intro h a
    match a with
    | 0 => exact h
    | 1 => exact ⟨Nat.zero_le _, by show (y 1).val < 0 + 1024; omega⟩

theorem blk_disjoint : ∀ t t' : Fin 2 × Fin 16 × Fin 2, t ≠ t' →
    Disjoint (blkSet t.1 t.2.1 t.2.2) (blkSet t'.1 t'.2.1 t'.2.2) := by
  rintro ⟨c, i, k⟩ ⟨c', i', k'⟩ hne
  rw [Finset.disjoint_left]
  intro y h h'
  have h := (mem_blkSet c i k y).1 h
  have h' := (mem_blkSet c' i' k' y).1 h'
  have := c.isLt; have := k.isLt; have := c'.isLt; have := k'.isLt
  refine hne ?_
  have hi : i = i' := Fin.ext (by omega)
  subst hi
  have hc : c = c' := Fin.ext (by omega)
  subst hc
  have hk : k = k' := Fin.ext (by omega)
  subst hk
  rfl

theorem blk_cover (y : S2048x1024.Idx) : ∃ t : Fin 2 × Fin 16 × Fin 2, y ∈ blkSet t.1 t.2.1 t.2.2 := by
  have hy : (y 0).val < 2048 := (y 0).isLt
  refine ⟨(⟨(y 0).val / 64 % 2, Nat.mod_lt _ (by decide)⟩, ⟨(y 0).val / 128, by omega⟩, ⟨(y 0).val / 32 % 2, Nat.mod_lt _ (by decide)⟩),
    (mem_blkSet _ _ _ _).2 ?_⟩
  show 128 * ((y 0).val / 128) + 64 * ((y 0).val / 64 % 2) + 32 * ((y 0).val / 32 % 2) ≤ _ ∧ _ < 128 * ((y 0).val / 128) + 64 * ((y 0).val / 64 % 2) + 32 * ((y 0).val / 32 % 2) + 32
  omega

/-! ## What a task and a core carry -/

/-- Task `i` of core `c`'s read share. -/
abbrev share (c : Fin 2) (i : Fin 16) : PosShare TreeShare := leaf 4 (leaf 1 fullShare c) i

/-- The task's two blocks of the result, at `f`. -/
def blocks (d : Dev nD) (c : Fin 2) (i : Fin 16) (f : Buf (Elt F) (oLoc d)) : sProp 𝕄 :=
  iprop((oLoc d ↦[blkSet c i 0]{fullShare} f) ∗ (oLoc d ↦[blkSet c i 1]{fullShare} f))
def task (d : Dev nD) (c : Fin 2) (i : Fin 16) (f : Buf (Elt F) (oLoc d)) : sProp 𝕄 :=
  iprop((xLoc d ↦{share c i} rowsOf m d) ∗ (aLoc d ↦{share c i} pos0Of m d) ∗ (bLoc d ↦{share c i} pos1Of m d) ∗ blocks d c i f)

instance task_storable (d : Dev nD) (c : Fin 2) (i : Fin 16) (f : Buf (Elt F) (oLoc d)) : BI.Storable (upEmb : UEmb _ 𝕄) (task m d c i f) := by
  unfold task blocks
  infer_instance

/-- A core's sixteen tasks'. -/
def core (d : Dev nD) (c : Fin 2) (f : Buf (Elt F) (oLoc d)) : sProp 𝕄 := bigSep Finset.univ fun i : Fin 16 => task m d c i f

instance core_storable (d : Dev nD) (c : Fin 2) (f : Buf (Elt F) (oLoc d)) : BI.Storable (upEmb : UEmb _ 𝕄) (core m d c f) := by
  unfold core
  infer_instance

/-- An array held whole is every task's share of it. -/
theorem shares_eq {ℓ : Loc nD τ sig} (f : Buf (Elt F) ℓ) :
    (ℓ ↦{fullShare} f : sProp 𝕄) = bigSep Finset.univ fun c : Fin 2 => bigSep Finset.univ fun i : Fin 16 => ℓ ↦{share c i} f := by
  rw [pointsTo_leaves Finset.univ f 1 fullShare]
  exact bigSep_congr fun c _ => pointsTo_leaves Finset.univ f 4 (leaf 1 fullShare c)

/-- A buffer held whole is the disjoint pieces that cover it. -/
theorem pieces_eq {ℓ : Loc nD τ sig} {T : Type} [Fintype T] (f : Buf (Elt F) ℓ) (I : T → Finset (Idx ℓ))
    (hd : ∀ t t', t ≠ t' → Disjoint (I t) (I t')) (hc : ∀ y, ∃ t, y ∈ I t) :
    (ℓ ↦{fullShare} f : sProp 𝕄) = bigSep Finset.univ fun t => ℓ ↦[I t]{fullShare} f := by
  rw [← pointsTo_biUnion Finset.univ I (fun t _ t' _ => hd t t'),
    Finset.eq_univ_of_forall (s := Finset.univ.biUnion I) fun y => Finset.mem_biUnion.2 ((hc y).imp fun t h => ⟨Finset.mem_univ t, h⟩)]

/-- The result held whole is every task's two blocks of it. -/
theorem blocks_eq (d : Dev nD) (f : Buf (Elt F) (oLoc d)) :
    (oLoc d ↦{fullShare} f : sProp 𝕄) = bigSep Finset.univ fun c : Fin 2 => bigSep Finset.univ fun i : Fin 16 => blocks d c i f := by
  rw [pieces_eq f (fun t : Fin 2 × Fin 16 × Fin 2 => blkSet t.1 t.2.1 t.2.2) blk_disjoint blk_cover, bigSep_univ_prod]
  refine bigSep_congr fun c _ => ?_
  rw [bigSep_univ_prod]
  refine bigSep_congr fun i _ => ?_
  rw [bigSep_fin_two]
  rfl

/-- The call's four arrays held whole are what its cores carry. -/
theorem cores_eq (d : Dev nD) (f : Buf (Elt F) (oLoc d)) :
    (iprop((xLoc d ↦{fullShare} rowsOf m d) ∗ (aLoc d ↦{fullShare} pos0Of m d) ∗ (bLoc d ↦{fullShare} pos1Of m d) ∗ oLoc d ↦{fullShare} f) : sProp 𝕄)
      = bigSep Finset.univ fun c : Fin 2 => core m d c f := by
  unfold core task
  simp only [bigSep_sep']
  rw [shares_eq (ℓ := xLoc d) (rowsOf m d), shares_eq (ℓ := aLoc d) (pos0Of m d), shares_eq (ℓ := bLoc d) (pos1Of m d), blocks_eq]

/-- The call takes what its cores carry with the result unwritten and brings it back with the result written. -/
def P : (K (F := F)).Pay (nD := nD) (Val := Elt F) (Name := ℕ) (U := UU) where
  st := fun q d c => match q with | 0 => core m d (Fin.cast nCore_zero c) (m (oLoc d))
  dn := fun q d c => match q with | 0 => core m d (Fin.cast nCore_zero c) (sumsOf m d)
  go := fun q d c i => match q with | 0 => task m d (Fin.cast nCore_zero c) (Fin.cast nSub_zero i) (m (oLoc d))
  td := fun q d c i => match q with | 0 => task m d (Fin.cast nCore_zero c) (Fin.cast nSub_zero i) (sumsOf m d)
  x := fun _ _ => iprop(emp)

instance P_storable : (P (F := F) m).IsStorable where
  st q d c := match q with
    | 0 => core_storable m d (Fin.cast nCore_zero c) (m (oLoc d))
  dn q d c := match q with
    | 0 => core_storable m d (Fin.cast nCore_zero c) (sumsOf m d)
  go q d c i := match q with
    | 0 => task_storable m d (Fin.cast nCore_zero c) (Fin.cast nSub_zero i) (m (oLoc d))
  td q d c i := match q with
    | 0 => task_storable m d (Fin.cast nCore_zero c) (Fin.cast nSub_zero i) (sumsOf m d)

/-- Every position names a row. -/
def PreOK : Prop := ∀ d : Dev nD, InRows (F := F) (pos0Of m d) ∧ InRows (F := F) (pos1Of m d)

/-- A core's pieces are its tasks', both ways. -/
theorem vecSplit : (K (F := F)).VecSplit' (P m) 0 := by
  intro d c
  show core m d (Fin.cast nCore_zero c) (m (oLoc d)) ⊢ |={Set.univ}=> iprop(
      (bigSep Finset.univ fun i : Fin ((K (F := F)).nSub 0) => task m d (Fin.cast nCore_zero c) (Fin.cast nSub_zero i) (m (oLoc d)))
      ∗ ((bigSep Finset.univ fun i : Fin ((K (F := F)).nSub 0) => task m d (Fin.cast nCore_zero c) (Fin.cast nSub_zero i) (sumsOf m d))
          -∗ core m d (Fin.cast nCore_zero c) (sumsOf m d)))
  have e : ∀ f, (bigSep Finset.univ fun i : Fin ((K (F := F)).nSub 0) => task m d (Fin.cast nCore_zero c) (Fin.cast nSub_zero i) f)
      = core m d (Fin.cast nCore_zero c) f := fun f => bigSep_congr fun _ _ => congrArg (fun i => task m d (Fin.cast nCore_zero c) i f) (Fin.ext rfl)
  rw [e, e]
  iintro H
  imodintro
  isplitl [H]
  · iexact H
  iintro H
  iexact H

end Cert.Proof.Combine

end
-- ==== Proof.Run.lean ====
/-
  The whole program's run: each task's obligation, @main's host operations and its one call, and what every array holds at the end.
-/
module

public import proofs.«01_k».proof.Proof.Blocks

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.ShareLeaves (leaf pointsTo_leaves)

variable {F : FTy → Type} [FloatOps F]

local notation "𝕄" => MM F

variable (m : (ℓ : Loc nD τ sig) → Buf (Elt F) ℓ) (ρ : Dev nD → PrngReg)

/-! ## The task from what the launch deals it -/

section Tile

variable (d : Dev nD) (L : grid0.Coords)

/-- The task's transfer cells as a family. -/
abbrev dcell (d : Dev nD) (c : Fin τ.nSC) (i : Fin τ.nSub) (k : Fin 7) : GSem nD τ sig := (V d c i, .dma (csem k.val k.isLt))

theorem dcell_mem (c : Fin τ.nSC) (i : Fin τ.nSub) (k : Fin 7) : dcell d c i k ∈ ownCells (V d c i) :=
  mem_ownCells.mpr ⟨rfl, (show ∀ s : DmaSem sig, (SemLoc.dma s : SemLoc sig).isScoped .scVector = true by decide) _⟩

/-- The tile's own cells at zero: the task's seven and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A scratch buffer of the tile, in the launch's names. -/
abbrev sref (L : grid0.Coords) (b : Ref sig .scVector) : DevRef τ sig := (Proc.scVector (cV L) (jV L)).devRef b

theorem sref_ne {b b' : Ref sig .scVector} (h : b ≠ b') : sref L b ≠ sref L b' := fun e => h (Proc.devRef_injective _ e)

/-- The tile's own buffers: the task's five scratch buffers, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f)
          ∗ bigSep ((((((ownRefs (τ := τ) (.scVector (cV L) (jV L))).erase (sref L cc0_scratch0)).erase (sref L cc0_scratch1)).erase
              (sref L cc0_scratch2)).erase (sref L cc0_scratch3)).erase (sref L cc0_scratch4))
              fun b => iprop(∃ f, ((d, b) : Loc nD τ sig) ↦{fullShare} f)) := by
  have own : ∀ b : Ref sig .scVector, (sref L b).owner = .proc (Proc.scVector (cV L) (jV L)) → sref L b ∈ ownRefs (τ := τ) (.scVector (cV L) (jV L)) :=
    fun b hb => SparseCore.Cfg.mem_ownRefs_of_owner (p := Proc.scVector (cV L) (jV L)) hb
  unfold SparseCore.Cfg.ownBufs
  refine (SparseCore.bigSep_erase' (own cc0_scratch0 rfl)).trans ?_
  rw [SparseCore.bigSep_erase' (Finset.mem_erase.mpr ⟨sref_ne L (b := cc0_scratch1) (b' := cc0_scratch0) (by decide), own cc0_scratch1 rfl⟩),
    SparseCore.bigSep_erase' (Finset.mem_erase.mpr ⟨sref_ne L (b := cc0_scratch2) (b' := cc0_scratch1) (by decide),
      Finset.mem_erase.mpr ⟨sref_ne L (b := cc0_scratch2) (b' := cc0_scratch0) (by decide), own cc0_scratch2 rfl⟩⟩),
    SparseCore.bigSep_erase' (Finset.mem_erase.mpr ⟨sref_ne L (b := cc0_scratch3) (b' := cc0_scratch2) (by decide),
      Finset.mem_erase.mpr ⟨sref_ne L (b := cc0_scratch3) (b' := cc0_scratch1) (by decide),
      Finset.mem_erase.mpr ⟨sref_ne L (b := cc0_scratch3) (b' := cc0_scratch0) (by decide), own cc0_scratch3 rfl⟩⟩⟩),
    SparseCore.bigSep_erase' (Finset.mem_erase.mpr ⟨sref_ne L (b := cc0_scratch4) (b' := cc0_scratch3) (by decide),
      Finset.mem_erase.mpr ⟨sref_ne L (b := cc0_scratch4) (b' := cc0_scratch2) (by decide),
      Finset.mem_erase.mpr ⟨sref_ne L (b := cc0_scratch4) (b' := cc0_scratch1) (by decide),
      Finset.mem_erase.mpr ⟨sref_ne L (b := cc0_scratch4) (b' := cc0_scratch0) (by decide), own cc0_scratch4 rfl⟩⟩⟩⟩)]

/-- The task's blocks as its body slices them. -/
theorem out_eq (k : Fin 2) (f : Buf (Elt F) (oLoc d)) (w : BitVec 32) (hw : w = BitVec.ofNat 32 (32 * k.val)) (hi) :
    (((outV).slice (Rect.unit (s := S2048x1024) (k0_off130 L w) S32x1024.size hi) (fun _ => rfl)).view.loc (VT d L)
      ↦[((outV).slice (Rect.unit (s := S2048x1024) (k0_off130 L w) S32x1024.size hi) (fun _ => rfl)).view.set]{fullShare} f : sProp 𝕄)
      = (oLoc d ↦[blkSet (L 0) (L 1) k]{fullShare} f) := by
  subst hw
  exact congrArg (fun S => (oLoc d ↦[S]{fullShare} f : sProp 𝕄)) (set_of_off _ _ (k0_off130_eq L k) _ _)

/-- The task, from its pieces of the arrays and the tile's own buffers and cells to the same with its blocks summed. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ task m d (L 0) (L 1) (m (oLoc d)) ∗ scopedBufs (VT d L) ∗ scopedSems0 (VT d L) ∗ owes (VT d L) O W)
      ⊢ wp frame (wpE (defs₀ (F := F)) 𝒱₀ (VT d L) none) Set.univ
          (cc0__combine_body L rowsV (Memref.isWhole_whole _) p0V (Memref.isWhole_whole _) p1V (Memref.isWhole_whole _) outV (Memref.isWhole_whole _)
            i0V (Memref.isWhole_whole _) i1V (Memref.isWhole_whole _) r0V (Memref.isWhole_whole _) r1V (Memref.isWhole_whole _) accV (Memref.isWhole_whole _)
            cc0_scratch5 cc0_scoped0 cc0_scoped1 cc0_scoped2 cc0_scoped3 cc0_scoped4 cc0_scoped5)
          fun _ => iprop(task m d (L 0) (L 1) (sumsOf m d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold task blocks
  rw [← out_eq (F := F) d L 0 (m (oLoc d)) 0#32 rfl (k0_off130_inb L 0), ← out_eq (F := F) d L 1 (m (oLoc d)) 32#32 rfl (k0_off130_inb L 1),
    ← out_eq (F := F) d L 0 (sumsOf m d) 0#32 rfl (k0_off130_inb L 0), ← out_eq (F := F) d L 1 (sumsOf m d) 32#32 rfl (k0_off130_inb L 1)]
  iintro ⟨#Hlv, -, ⟨HX, HP0, HP1, HO0, HO1⟩, ⟨⟨%g0, HI0⟩, ⟨%g1, HI1⟩, ⟨%t0, HR0⟩, ⟨%t1, HR1⟩, ⟨%a, HA⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [HX HP0 HP1 HO0 HO1 HI0 HI1 HR0 HR1 HA HC HO]
  · iapply (tile_run d L (share (L 0) (L 1)) (rowsOf m d) (pos0Of m d) (pos1Of m d) (m (oLoc d)) (hpre d).1 (hpre d).2 O W g0 g1 t0 t1 a)
    isplitr; · iexact Hmw
    isplitl [HX]; · iexact HX
    isplitl [HP0]; · iexact HP0
    isplitl [HP1]; · iexact HP1
    isplitl [HO0]; · iexact HO0
    isplitl [HO1]; · iexact HO1
    isplitl [HI0]; · iexact HI0
    isplitl [HI1]; · iexact HI1
    isplitl [HR0]; · iexact HR0
    isplitl [HR1]; · iexact HR1
    isplitl [HA]; · iexact HA
    isplitl [HC]; · iexact HC
    iexact HO
  iintro %_ ⟨HX, HP0, HP1, HO0, HO1, HI0, HI1, HR0, HR1, HA, HC, ⟨%W', HO⟩⟩
  isplitl [HX HP0 HP1 HO0 HO1]
  · isplitl [HX]; · iexact HX
    isplitl [HP0]; · iexact HP0
    isplitl [HP1]; · iexact HP1
    isplitl [HO0]; · iexact HO0
    iexact HO1
  isplitl [HI0 HI1 HR0 HR1 HA Hbufs]
  · isplitl [HI0]; · iexact HI0
    isplitl [HI1]; · iexact HI1
    isplitl [HR0]; · iexact HR0
    isplitl [HR1]; · iexact HR1
    isplitl [HA]; · iexact HA
    iexact Hbufs
  isplitl [HC Hsems]
  · isplitl [HC]; · iexact HC
    iexact Hsems
  iexists W'; isplitr
  · ipureintro
    intro p _
    rcases p.2 with _ | q
    · exact .inr (.inl rfl)
    · exact .inr (.inr (congrArg some (Subsingleton.elim q 0)))
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__combine_body (coordsV c s)
          rowsV (Memref.isWhole_whole _) p0V (Memref.isWhole_whole _) p1V (Memref.isWhole_whole _) outV (Memref.isWhole_whole _)
          i0V (Memref.isWhole_whole _) i1V (Memref.isWhole_whole _) r0V (Memref.isWhole_whole _) r1V (Memref.isWhole_whole _) accV (Memref.isWhole_whole _)
          cc0_scratch5 cc0_scoped0 cc0_scoped1 cc0_scoped2 cc0_scoped3 cc0_scoped4 cc0_scoped5) ⟨⟩ c s := rfl

set_option maxRecDepth 16384 in
/-- Every tile's obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

/-! ## The launch element -/

theorem emps {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

abbrev tr (b : Ref sig .tc) : DevRef τ sig := Proc.devRef .tc b

/-- The five host operations before the call. -/
abbrev op0 : HloOp τ sig (Elt F) := StableHlo.unary main_arg1 main_v0 (extractStridedSlice S2048x1 ![0, 0] · slices_S2048x2_S2048x1_0_0)
abbrev op1 : HloOp τ sig (Elt F) := StableHlo.reshape main_v0 main_v1 rfl shapeCasts_S2048x1_S2048
abbrev op2 : HloOp τ sig (Elt F) := StableHlo.unary main_arg1 main_v2 (extractStridedSlice S2048x1 ![0, 1] · slices_S2048x2_S2048x1_0_1)
abbrev op3 : HloOp τ sig (Elt F) := StableHlo.reshape main_v2 main_v3 rfl shapeCasts_S2048x1_S2048
abbrev op4 : HloOp τ sig (Elt F) := StableHlo.reshape main_arg0 main_v4 rfl shapeCasts_S6144x1024_S6144x8x128

/-- The TensorCore's arrays. -/
abbrev S8 : Finset (DevRef τ sig) := {tr main_arg0, tr main_arg1, tr main_v0, tr main_v1, tr main_v2, tr main_v3, tr main_v4, tr main_v5}

theorem held_S8 (d : Dev nD) (W : Valuation τ sig (Elt F)) :
    (held (T d) S8 W : sProp 𝕄)
      = iprop((rowsLoc d ↦{fullShare} W (tr main_arg0)) ∗ (posLoc d ↦{fullShare} W (tr main_arg1))
          ∗ ((SparseCore.T d).loc main_v0 ↦{fullShare} W (tr main_v0)) ∗ (aLoc d ↦{fullShare} W (tr main_v1))
          ∗ ((SparseCore.T d).loc main_v2 ↦{fullShare} W (tr main_v2)) ∗ (bLoc d ↦{fullShare} W (tr main_v3))
          ∗ (xLoc d ↦{fullShare} W (tr main_v4)) ∗ oLoc d ↦{fullShare} W (tr main_v5)) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents, -/
def V0 (d : Dev nD) : Valuation τ sig (Elt F) := fun b => m (d, b)
/-- and the contents before the call. -/
def V5 (d : Dev nD) : Valuation τ sig (Elt F) := StableHlo.after [op0, op1, op2, op3, op4] (V0 m d)

theorem unscoped_held (d : Dev nD) : (unscopedBufs d (fun b => m ((SparseCore.T d).loc b)) : sProp 𝕄) = held (T d) S8 (V0 m d) := by
  unfold unscopedBufs
  rw [show (Finset.univ.filter fun b : Ref sig .tc => ¬ b.isScoped) = {main_arg0, main_arg1, main_v0, main_v1, main_v2, main_v3, main_v4, main_v5} by decide,
    held_S8, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

theorem V5_arg0 (d : Dev nD) : V5 m d (tr main_arg0) = m (rowsLoc d) := by unfold V5; after_results; rfl
theorem V5_arg1 (d : Dev nD) : V5 m d (tr main_arg1) = m (posLoc d) := by unfold V5; after_results; rfl
theorem V5_v1 (d : Dev nD) : V5 m d (tr main_v1) = pos0Of m d := by unfold V5; after_results; rfl
theorem V5_v3 (d : Dev nD) : V5 m d (tr main_v3) = pos1Of m d := by unfold V5; after_results; rfl
theorem V5_v4 (d : Dev nD) : V5 m d (tr main_v4) = rowsOf m d := by unfold V5; after_results; rfl
theorem V5_v5 (d : Dev nD) : V5 m d (tr main_v5) = m (oLoc d) := by unfold V5; after_results; rfl

/-- What @main leaves: its arguments unchanged, the result summed. -/
abbrev FIN (d : Dev nD) : sProp 𝕄 :=
  iprop((rowsLoc d ↦{fullShare} m (rowsLoc d)) ∗ (posLoc d ↦{fullShare} m (posLoc d)) ∗ oLoc d ↦{fullShare} (sumsOf m d : Buf (Elt F) (oLoc d)))

theorem h0 : (op0 (F := F)).bufs ⊆ S8 := show ({tr main_arg1, tr main_v0} : Finset (DevRef τ sig)) ⊆ S8 by decide
theorem h1 : (op1 (F := F)).bufs ⊆ S8 := show ({tr main_v0, tr main_v1} : Finset (DevRef τ sig)) ⊆ S8 by decide
theorem h2 : (op2 (F := F)).bufs ⊆ S8 := show ({tr main_arg1, tr main_v2} : Finset (DevRef τ sig)) ⊆ S8 by decide
theorem h3 : (op3 (F := F)).bufs ⊆ S8 := show ({tr main_v2, tr main_v3} : Finset (DevRef τ sig)) ⊆ S8 by decide
theorem h4 : (op4 (F := F)).bufs ⊆ S8 := show ({tr main_arg0, tr main_v4} : Finset (DevRef τ sig)) ⊆ S8 by decide

theorem cores_st (d : Dev nD) : (bigSep Finset.univ fun c : Fin ((K (F := F)).nCore 0) => (P m).st 0 d c)
    = bigSep Finset.univ fun c : Fin 2 => core m d c (m (oLoc d)) :=
  bigSep_congr fun _ _ => congrArg (fun c => core m d c (m (oLoc d))) (Fin.ext rfl)
theorem cores_dn (d : Dev nD) : (bigSep Finset.univ fun c : Fin ((K (F := F)).nCore 0) => (P m).dn 0 d c)
    = bigSep Finset.univ fun c : Fin 2 => core m d c (sumsOf m d) :=
  bigSep_congr fun _ _ => congrArg (fun c => core m d c (sumsOf m d)) (Fin.ext rfl)

/-- @main on a device: the host operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S8) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S8) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S8) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S8) h3 (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S8) h4 (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  ihave Hh := (show (held (T d) S8 ((op4 (F := F)).result ((op3 (F := F)).result ((op2 (F := F)).result ((op1 (F := F)).result ((op0 (F := F)).result (V0 m d)))))) : sProp 𝕄) ⊢ _ from
    Entails.of_eq (held_S8 (F := F) d (V5 m d))) $$ Hheld
  rw [V5_arg0, V5_arg1, V5_v1, V5_v3, V5_v4, V5_v5]
  icases Hh with ⟨HR, HP, -, HP0, -, HP1, HX, HO⟩
  iapply ((K (F := F)).wp_run (D (F := F)) 𝒱 (EH := EH) (P := P m) κ d 0) $$ [Hst HR HP HP0 HP1 HX HO Hb Hts]
  isplitr; · iexact Hctx
  isplitl [Hst]; · iexact Hst
  isplitl [HP0 HP1 HX HO]
  · rw [cores_st, ← cores_eq]
    isplitl [HX]; · iexact HX
    isplitl [HP0]; · iexact HP0
    isplitl [HP1]; · iexact HP1
    iexact HO
  iintro ⟨Hst, Hdn⟩
  ihave Hdn' := (Entails.of_eq ((cores_dn m d).trans (cores_eq m d (sumsOf m d)).symm)) $$ Hdn
  icases Hdn' with ⟨-, -, -, HO⟩
  imodintro
  isplitl [Hst]; · iexact Hst
  isplitr [Hb Hts]
  · isplitl [HR]; · iexact HR
    isplitl [HP]; · iexact HP
    iexact HO
  isplitl [Hb] <;> iassumption

/-- What is read off a finished memory. -/
def fq (d : Dev nD) (s' : Phys nD τ sig (Elt F)) : Prop :=
  s'.mem.mem (oLoc d) = sumsOf m d ∧ s'.mem.mem (rowsLoc d) = m (rowsLoc d) ∧ s'.mem.mem (posLoc d) = m (posLoc d)

set_option maxRecDepth 16384 in
theorem hfin (d : Dev nD) (s' : Phys nD τ sig (Elt F)) : iprop(FIN m d ∗ SI s') ⊢ (⌜fq m d s'⌝ : sProp 𝕄) := by
  iintro ⟨⟨HR, HP, HO⟩, HSI⟩
  ihave H := (persistent_entails_right (SI_pointsTo_agree (st := s') (ℓ := rowsLoc d) (I := Finset.univ) (q := fullShare) (f := m (rowsLoc d)))) $$ [HSI HR]
  · isplitl [HSI] <;> iassumption
  icases H with ⟨%e1, HSI, -⟩
  ihave H := (persistent_entails_right (SI_pointsTo_agree (st := s') (ℓ := posLoc d) (I := Finset.univ) (q := fullShare) (f := m (posLoc d)))) $$ [HSI HP]
  · isplitl [HSI] <;> iassumption
  icases H with ⟨%e2, HSI, -⟩
  ihave H := (SI_pointsTo_agree (st := s') (ℓ := oLoc d) (I := Finset.univ) (q := fullShare) (f := sumsOf m d)) $$ [HSI HO]
  · isplitl [HSI] <;> iassumption
  icases H with %e3
  ipureintro
  exact ⟨funext fun i => e3 i (Finset.mem_univ i), funext fun i => e1 i (Finset.mem_univ i), funext fun i => e2 i (Finset.mem_univ i)⟩

/-- Every device's arrays and every counter at the end. -/
def QC : PUnit × MemSt nD τ sig (Elt F) → Prop := fun r =>
  (∀ d : Dev nD, r.2.mem (oLoc d) = sumsOf m d ∧ r.2.mem (rowsLoc d) = m (rowsLoc d) ∧ r.2.mem (posLoc d) = m (posLoc d)) ∧ r.2.sem = fun _ => 0

/-- From a memory whose positions name rows, the program ends with every result row the sum of the two rows named. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Combine

end
-- ==== Proof.Value.lean ====
/-
  The values: what the precondition says of the positions, the reference's result read entry by entry, and its equality with the kernel's.
-/
module

public import proofs.«01_k».proof.Proof.Run
public import proofs.«01_k».proof.Proof.Gen.ReferenceIdeal.Run
public import proofs.«01_k».proof.Proof.Gen.Pre_in_rows
public import Idealize.ShloMosaic.Lib.ValueIdxCore
public import Idealize.ShloMosaic.Lib.IdealHost
public import Idealize.ShloMosaic.Lib.ReduceAll
public import Idealize.ShloMosaic.Lib.Affine
public import Idealize.ShloMosaic.Lib.Pointwise
public import Idealize.ShloMosaic.Lib.Pipeline.Value

@[expose] public section

noncomputable section

namespace Cert.Proof.Combine

open Idealize.ShloMosaic
open Idealize.ShloMosaic.ValueIdx (hostReduceAdd_apply)

abbrev Rows : Shape := ⟨2, ![6144, 1024]⟩
abbrev Pairs : Shape := ⟨2, ![2048, 2]⟩

/-- The two positions of each token name rows. -/
def PairsOK (p : IVec Pairs 32) : Prop := ∀ i, (p i).toNat < 6144

/-- A word between zero and 6144, compared signed, is below 6144. -/
theorem word_of_range (w : BitVec 32) (h0 : (0#32).toInt ≤ w.toInt) (h1 : w.toInt < (6144#32).toInt) : w.toNat < 6144 := by
  have e0 : (0#32 : BitVec 32).toInt = 0 := by decide
  have e1 : (6144#32 : BitVec 32).toInt = 6144 := by decide
  rw [e0, BitVec.toInt_eq_toNat_cond] at h0
  rw [e1, BitVec.toInt_eq_toNat_cond] at h1
  have := w.isLt
  split at h0 <;> split at h1 <;> omega

theorem toInt_of_lt (w : BitVec 32) (h : w.toNat < 6144) : w.toInt = w.toNat := by
  rw [BitVec.toInt_eq_toNat_cond, if_pos (by omega)]

/-- The precondition, read. -/
theorem pairsOK_of_pre {F : FTy → Type} [FloatOps F] (x : FVec F Rows .f32) (p : IVec Pairs 32)
    (h : Cert.Pre_in_rows.fn (F := F) x p = fun _ => 1#1) : PairsOK p := by
  intro i
  have e := congrFun h i
  obtain ⟨e0, e1⟩ := IntOp.andi_eq_one.mp (show IntOp.andi (IntOp.cmpi .sge (p i) 0#32) (IntOp.cmpi .slt (p i) 6144#32) = 1#1 from e)
  exact word_of_range _ (IntOp.cmpi_sge.mp e0) (IntOp.cmpi_slt.mp e1)

section Kernel

open Cert.KernelIdeal Cert.KernelIdeal.Gen

variable {F : FTy → Type} [FloatOps F]

/-- Column `k` of the positions, as the kernel's host code takes it. -/
theorem col0_apply (p : IVec Pairs 32) (r : Fin 2048) :
    shapeCast S2048 (extractStridedSlice S2048x1 ![0, 0] p slices_S2048x2_S2048x1_0_0) shapeCasts_S2048x1_S2048 (posIx r) = p (ix2 r (0 : Fin 2)) := by
  rw [shapeCast_apply _ _ (posIx r) (ix2 r (0 : Fin 1)) (by
      rw [Shape.rowMajor_val_two, Shape.rowMajor_val_one]
      show r.val * 1 + 0 = r.val
      omega)]
  exact extractStridedSlice_apply _ _ _ _ _ fun a => match a with
    | 0 => (Nat.zero_add _).symm
    | 1 => rfl
theorem col1_apply (p : IVec Pairs 32) (r : Fin 2048) :
    shapeCast S2048 (extractStridedSlice S2048x1 ![0, 1] p slices_S2048x2_S2048x1_0_1) shapeCasts_S2048x1_S2048 (posIx r) = p (ix2 r (1 : Fin 2)) := by
  rw [shapeCast_apply _ _ (posIx r) (ix2 r (0 : Fin 1)) (by
      rw [Shape.rowMajor_val_two, Shape.rowMajor_val_one]
      show r.val * 1 + 0 = r.val
      omega)]
  exact extractStridedSlice_apply _ _ _ _ _ fun a => match a with
    | 0 => (Nat.zero_add _).symm
    | 1 => rfl

/-- An expert row's entry in the reshaped rows. -/
theorem rows_apply (x : FVec F Rows .f32) (w : BitVec 32) (hw : w.toNat < 6144) (c : Fin 1024) :
    shapeCast S6144x8x128 x shapeCasts_S6144x1024_S6144x8x128 (rowAt w c) = x (ix2 ⟨w.toNat, hw⟩ c) :=
  shapeCast_apply _ _ _ _ (by
    rw [Shape.rowMajor_val_two, Shape.rowMajor_val_three]
    show w.toNat * 1024 + c.val = (w.toNat % 6144 * 8 + c.val / 128) * 128 + c.val % 128
    have := Nat.mod_add_div c.val 128
    rw [Nat.mod_eq_of_lt hw]
    omega)

theorem posIx_eta (j : S2048.Idx) : posIx (j 0) = j := funext fun a => match a with | 0 => rfl

variable (m : (ℓ : Loc nD τ sig) → Buf (Elt F) ℓ)

theorem preOK_of_pairs (h : ∀ d, PairsOK (m (posLoc d))) : PreOK m := fun d =>
  ⟨fun j => by
      have e : pos0Of m d j = m (posLoc d) (ix2 (j 0) (0 : Fin 2)) := by
        rw [← posIx_eta j]; exact col0_apply (m (posLoc d)) (j 0)
      exact lt_of_eq_of_lt (congrArg BitVec.toNat e) (h d _),
    fun j => by
      have e : pos1Of m d j = m (posLoc d) (ix2 (j 0) (1 : Fin 2)) := by
        rw [← posIx_eta j]; exact col1_apply (m (posLoc d)) (j 0)
      exact lt_of_eq_of_lt (congrArg BitVec.toNat e) (h d _)⟩

/-- The kernel's result, entry by entry. -/
theorem sumsOf_apply (d : Dev nD) (h : PairsOK (m (posLoc d))) (y : S2048x1024.Idx) :
    sumsOf m d y = FloatOps.addf (φ := .f32)
      ((m (rowsLoc d) : FVec F Rows .f32) (ix2 ⟨((m (posLoc d) : IVec Pairs 32) (ix2 (y 0) (0 : Fin 2))).toNat, h _⟩ (y 1)))
      ((m (rowsLoc d) : FVec F Rows .f32) (ix2 ⟨((m (posLoc d) : IVec Pairs 32) (ix2 (y 0) (1 : Fin 2))).toNat, h _⟩ (y 1))) := by
  have e0 : pos0Of m d (posIx (y 0)) = _ := col0_apply (m (posLoc d)) (y 0)
  have e1 : pos1Of m d (posIx (y 0)) = _ := col1_apply (m (posLoc d)) (y 0)
  unfold sumsOf combined
  rw [e0, e1]
  exact congrArg₂ FloatOps.addf (rows_apply _ _ (h _) _) (rows_apply _ _ (h _) _)

end Kernel

section Reference

open Cert.ReferenceIdeal Cert.ReferenceIdeal.Gen

/-- The positions as the reference's take wraps them, a trailing axis added. -/
abbrev wrapped (p : IVec S2048x2 32) : IVec S2048x2x1 32 :=
  broadcastInDim S2048x2x1 ![0, 1] bcast_S2048x2_S2048x2x1_0_1
    (select (cmpi .slt p (broadcastInDim S2048x2 ![] bcast_S_S2048x2 (constantI S_ 32 0#32))) (addi p (broadcastInDim S2048x2 ![] bcast_S_S2048x2 (constantI S_ 32 6144#32))) p)

theorem wrapped_apply (p : IVec S2048x2 32) (h : PairsOK p) (t : Fin 2048) (k : Fin 2) (u : Fin 1) : wrapped p (ix3 t k u) = p (ix2 t k) := by
  unfold wrapped
  rw [broadcastInDim_apply _ _ _ _ (ix2 t k) (fun a => match a with
    | 0 => rfl
    | 1 => rfl)]
  show (if IntOp.cmpi .slt (p (ix2 t k)) 0#32 = 1 then _ else p (ix2 t k)) = p (ix2 t k)
  rw [if_neg]
  intro e
  have := IntOp.cmpi_slt.mp e
  rw [toInt_of_lt _ (h _)] at this
  have e0 : (0#32 : BitVec 32).toInt = 0 := by decide
  omega

/-- The take's gather, entry by entry. -/
theorem gather_rows {α : Type} (x : S6144x1024.Idx → α) (idx : IVec S2048x2x1 32) (t : Fin 2048) (k : Fin 2) (c : Fin 1024) :
    Host.gather gather_S6144x1024_S2048x2x1_S2048x2x1024_2_0_n_n_0_2_11024 x idx (ix3 t k c)
      = x (ix2 ⟨min (idx (ix3 t k (0 : Fin 1))).toInt.toNat 6143, by omega⟩ c) := by
  unfold Host.gather
  refine congrArg x (funext fun a => Fin.ext ?_)
  generalize hd : gather_S6144x1024_S2048x2x1_S2048x2x1024_2_0_n_n_0_2_11024 = d
  show d.start (ix3 t k c) idx a + d.batchCoord (ix3 t k c) a + d.offCoord (ix3 t k c) a = _
  have h01 : a = 0 ∨ a = 1 := by
    match a with
    | ⟨0, _⟩ => exact Or.inl rfl
    | ⟨1, _⟩ => exact Or.inr rfl
  rcases h01 with rfl | rfl
  · have hk : (0 : Fin 2) ∉ d.sKept := fun h => ((d.mem_sKept 0).1 h).1 (by subst hd; exact List.mem_singleton.2 rfl)
    have hm : (0 : Fin 2) ∈ d.startIndexMap := by subst hd; exact List.mem_singleton.2 rfl
    rw [d.batchCoord_eq_zero _ _ (by subst hd; exact List.not_mem_nil), d.offCoord_eq_zero _ _ hk]
    simp only [Nat.add_zero]
    unfold GatherDims.start
    rw [dif_pos hm]
    have hsi : d.siIdx (ix3 t k c) ⟨d.startIndexMap.idxOf 0, List.idxOf_lt_length_iff.2 hm⟩ = ix3 t k (0 : Fin 1) := by
      subst hd
      funext b; refine Fin.ext ?_
      match b with
      | ⟨0, _⟩ => rfl
      | ⟨1, _⟩ => rfl
      | ⟨2, _⟩ => rfl
    rw [hsi]
    subst hd
    rfl
  · have hk : (1 : Fin 2) ∈ d.sKept := (d.mem_sKept 1).2 (by subst hd; decide)
    have hm : (1 : Fin 2) ∉ d.startIndexMap := by subst hd; decide
    rw [d.batchCoord_eq_zero _ _ (by subst hd; exact List.not_mem_nil), Nat.add_zero]
    unfold GatherDims.start GatherDims.offCoord
    rw [dif_neg hm, dif_pos hk, Nat.zero_add]
    subst hd
    rfl

/-- The reference's check that a position names a row: it does. -/
theorem check_one (p : IVec S2048x2 32) (h : PairsOK p) (j : S2048x2.Idx) :
    Host.reduce IntOp.andi (andi (cmpi .sge (wrapped p) (broadcastInDim S2048x2x1 ![] bcast_S_S2048x2x1 (constantI S_ 32 0#32)))
        (cmpi .sle (wrapped p) (broadcastInDim S2048x2x1 ![0, 1, 2] bcast_S1x1x1_S2048x2x1_0_1_2 (broadcastInDim S1x1x1 ![2] bcast_S1_S1x1x1_2 (constantI S1 32 6143#32)))))
      (constantI S_ 1 1#1) reducesTo_S2048x2x1_S2048x2_d2 h_S_ j = 1#1 := by
  refine Host.reduce_andi_one _ _ _ _ _ rfl fun i => ?_
  obtain ⟨t, k, u, ei⟩ : ∃ (t : Fin 2048) (k : Fin 2) (u : Fin 1), i = ix3 t k u := ⟨i 0, i 1, i 2, funext fun a => match a with
    | 0 => rfl
    | 1 => rfl
    | 2 => rfl⟩
  show IntOp.andi (IntOp.cmpi .sge (wrapped p i) 0#32) (IntOp.cmpi .sle (wrapped p i) 6143#32) = 1#1
  rw [ei, wrapped_apply p h]
  have hw := h (ix2 t k)
  have e0 : (0#32 : BitVec 32).toInt = 0 := by decide
  have e1 : (6143#32 : BitVec 32).toInt = 6143 := by decide
  refine IntOp.andi_eq_one.mpr ⟨IntOp.cmpi_sge.mpr ?_, IntOp.cmpi_sle.mpr ?_⟩ <;> rw [toInt_of_lt _ hw] <;> omega

/-- The rows taken. -/
abbrev taken (x : FVec Ideal S6144x1024 .f32) (p : IVec S2048x2 32) : FVec Ideal S2048x2x1024 .f32 :=
  select (broadcastInDim S2048x2x1024 ![0, 1] bcast_S2048x2_S2048x2x1024_0_1
      (Host.reduce IntOp.andi (andi (cmpi .sge (wrapped p) (broadcastInDim S2048x2x1 ![] bcast_S_S2048x2x1 (constantI S_ 32 0#32)))
        (cmpi .sle (wrapped p) (broadcastInDim S2048x2x1 ![0, 1, 2] bcast_S1x1x1_S2048x2x1_0_1_2 (broadcastInDim S1x1x1 ![2] bcast_S1_S1x1x1_2 (constantI S1 32 6143#32)))))
        (constantI S_ 1 1#1) reducesTo_S2048x2x1_S2048x2_d2 h_S_))
    (Host.gather gather_S6144x1024_S2048x2x1_S2048x2x1024_2_0_n_n_0_2_11024 x (wrapped p))
    (broadcastInDim S2048x2x1024 ![] bcast_S_S2048x2x1024 (constant S_ .f32 0x7FC00000#32))

theorem taken_apply (x : FVec Ideal S6144x1024 .f32) (p : IVec S2048x2 32) (h : PairsOK p) (t : Fin 2048) (k : Fin 2) (c : Fin 1024) :
    taken x p (ix3 t k c) = x (ix2 ⟨(p (ix2 t k)).toNat, h _⟩ c) := by
  unfold taken select
  rw [broadcastInDim_apply _ _ _ _ (ix2 t k) (fun a => match a with
    | 0 => rfl
    | 1 => rfl), check_one p h]
  unfold Scalar.select
  rw [if_pos (show (1#1 : BitVec 1) = 1 from rfl), gather_rows]
  refine congrArg x (congrArg (fun r => ix2 r c) (Fin.ext ?_))
  show min (wrapped p (ix3 t k (0 : Fin 1))).toInt.toNat 6143 = _
  rw [wrapped_apply p h, toInt_of_lt _ (h _)]
  have := h (ix2 t k)
  show min (p (ix2 t k)).toNat 6143 = (p (ix2 t k)).toNat
  omega

/-- The reference's result, entry by entry. -/
theorem reference_apply (x : FVec Ideal S6144x1024 .f32) (p : IVec S2048x2 32) (h : PairsOK p) (y : S2048x1024.Idx) :
    Host.reduceAdd (taken x p) (constant S_ .f32 0x00000000#32) reducesTo_S2048x2x1024_S2048x1024_d1 h_S_ y
      = FloatOps.addf (F := Ideal) (φ := .f32) (x (ix2 ⟨(p (ix2 (y 0) (0 : Fin 2))).toNat, h _⟩ (y 1))) (x (ix2 ⟨(p (ix2 (y 0) (1 : Fin 2))).toNat, h _⟩ (y 1))) := by
  rw [hostReduceAdd_apply, Ideal.hostReduceAdd_r3_a1, Fin.sum_univ_two]
  have e : (constant (F := Ideal) S_ .f32 0x00000000#32 (Shape.Idx.first h_S_) : EReal) = 0 := by
    show Ideal.ofBits .f32 0x00000000#32 = 0
    simp [Ideal.ofBits, Ideal.ieee]
  rw [e, zero_add]
  exact congrArg₂ (fun a b : EReal => a + b) (taken_apply x p h (y 0) 0 (y 1)) (taken_apply x p h (y 0) 1 (y 1))

end Reference

end Cert.Proof.Combine

end
-- ==== Proof.TopTwo.lean ====
/-
  The two largest of eight extended reals, found in two ways: by taking the maximum twice, the second time with the place of the
  first filled by a smaller number, and by sorting downwards.
-/
module

public import Idealize.ShloMosaic.PureOps.Ideal
public import Idealize.ShloMosaic.Lib.SortFacts
public import Idealize.ShloMosaic.Lib.IdealHost

@[expose] public section

noncomputable section

namespace Cert.Proof.Routing

open Idealize.ShloMosaic

/-- The greatest of eight. -/
abbrev top (p : Fin 8 → EReal) : EReal := (Finset.univ : Finset (Fin 8)).fold max ⊥ p

theorem le_top_of (p : Fin 8 → EReal) (k : Fin 8) : p k ≤ top p :=
  (Finset.le_fold_max (p k)).mpr (Or.inr ⟨k, Finset.mem_univ k, le_rfl⟩)

theorem top_le (p : Fin 8 → EReal) (c : EReal) (h : ∀ k, p k ≤ c) : top p ≤ c :=
  (Finset.fold_max_le c).mpr ⟨bot_le, fun k _ => h k⟩

/-- The greatest is one of the eight. -/
theorem exists_eq_top (p : Fin 8 → EReal) : ∃ k, p k = top p := by
  obtain ⟨k, -, hk⟩ := Finset.exists_max_image (Finset.univ : Finset (Fin 8)) p ⟨0, Finset.mem_univ 0⟩
  exact ⟨k, le_antisymm (le_top_of p k) (top_le p _ fun j => hk j (Finset.mem_univ j))⟩

/-- The eight, with place `a` filled by `c`. -/
abbrev masked (p : Fin 8 → EReal) (a : Fin 8) (c : EReal) : Fin 8 → EReal := fun k => if k = a then c else p k

section Sorted

variable (p : Fin 8 → EReal) (σ : Fin 8 → Fin 8) (hσ : Function.Bijective σ) (hd : ∀ i j, i < j → p (σ j) ≤ p (σ i))
include hσ hd

/-- The first of the sorted is the greatest. -/
theorem sorted_zero : p (σ 0) = top p := by
  refine le_antisymm (le_top_of p _) (top_le p _ fun k => ?_)
  obtain ⟨i, rfl⟩ := hσ.2 k
  rcases eq_or_ne i 0 with rfl | hi
  · exact le_rfl
  · exact hd 0 i (Fin.pos_iff_ne_zero.mpr hi)

/-- With the place of a greatest filled by `c`, the greatest is `c` or the second of the sorted. -/
theorem sorted_one (a : Fin 8) (ha : p a = top p) (c : EReal) : top (masked p a c) = max c (p (σ 1)) := by
  have tail : ∀ i : Fin 8, i ≠ 0 → p (σ i) ≤ p (σ 1) := by
    intro i hi
    rcases eq_or_ne i 1 with rfl | h1
    · exact le_rfl
    · exact hd 1 i (by omega)
  apply le_antisymm
  · refine top_le _ _ fun k => ?_
    show (if k = a then c else p k) ≤ _
    split
    · exact le_max_left _ _
    · rename_i hk
      refine le_trans ?_ (le_max_right _ _)
      obtain ⟨i, rfl⟩ := hσ.2 k
      rcases eq_or_ne i 0 with rfl | hi
      · obtain ⟨j, rfl⟩ := hσ.2 a
        have hj : j ≠ 0 := fun e => hk (by rw [e])
        rw [sorted_zero p σ hσ hd, ← ha]
        exact tail j hj
      · exact tail i hi
  · refine max_le ?_ ?_
    · have := le_top_of (masked p a c) a
      rwa [show masked p a c a = c from if_pos rfl] at this
    · by_cases h1 : σ 1 = a
      · have h0 : σ 0 ≠ a := fun e => absurd (hσ.1 (e.trans h1.symm)) (by decide)
        have := le_top_of (masked p a c) (σ 0)
        rw [show masked p a c (σ 0) = p (σ 0) from if_neg h0] at this
        exact (hd 0 1 (by decide)).trans this
      · have := le_top_of (masked p a c) (σ 1)
        rwa [show masked p a c (σ 1) = p (σ 1) from if_neg h1] at this

end Sorted

/-- Sorting downwards, as the reference's selection sorts. -/
abbrev order (p : Fin 8 → EReal) : Fin 8 → Fin 8 :=
  sortedFrom fun k k' => (FloatOps.cmpfTotal (F := Ideal) (φ := .f32) .gt (p k) (p k')) == 1#1

theorem gt_iff (x y : EReal) : (FloatOps.cmpfTotal (F := Ideal) (φ := .f32) .gt x y == 1#1) = decide (y < x) := by
  show (Ideal.cmp .ogt x y == 1#1) = _
  by_cases h : y < x <;> simp [Ideal.cmp, h]

theorem order_bijective (p : Fin 8 → EReal) : Function.Bijective (order p) :=
  ⟨sortedFrom_injective _, sortedFrom_surjective _⟩

theorem order_sorted (p : Fin 8 → EReal) (i j : Fin 8) (h : i < j) : p (order p j) ≤ p (order p i) := by
  have := sortedFrom_noInversion
    (fun k k' => (FloatOps.cmpfTotal (F := Ideal) (φ := .f32) .gt (p k) (p k')) == 1#1)
    (fun k k' => (FloatOps.cmpfTotal (F := Ideal) (φ := .f32) .gt (p k) (p k')) == 1#1)
    (fun a b => by simp only [gt_iff]; simp; exact le_of_lt)
    (fun a b h => h)
    (fun a b c => by simp only [gt_iff]; simp; exact fun h1 h2 => h1.trans h2)
    i j h
  exact not_lt.mp (of_decide_eq_false ((gt_iff _ _).symm.trans this))

/-- The least place of a greatest, as a fold of signed minimums of words. -/
theorem first_place (f : Fin 8 → BitVec 32) (P : Fin 8 → Prop) [DecidablePred P]
    (hf : ∀ k, f k = if P k then BitVec.ofNat 32 k.val else 8#32) (hP : ∃ k, P k) :
    ∃ a : Fin 8, P a ∧ (Finset.univ : Finset (Fin 8)).fold IntOp.minsi 2147483647#32 f = BitVec.ofNat 32 a.val := by
  have small : ∀ k, (f k).toNat ≤ 8 := by
    intro k
    rw [hf]
    split
    · rw [BitVec.toNat_ofNat]; have := k.isLt; omega
    · decide
  have step : ∀ x y : BitVec 32, x.toNat < 2147483648 → y.toNat < 2147483648 → IntOp.minsi x y = if x.toNat < y.toNat then x else y := by
    intro x y hx hy
    have : x.slt y = decide (x.toNat < y.toNat) := by
      rw [BitVec.slt_eq_decide, BitVec.toInt_eq_toNat_of_lt (by omega), BitVec.toInt_eq_toNat_of_lt (by omega)]
      simp
    show (if x.slt y then x else y) = _
    rw [this]; simp
  -- the fold over a finite set is the start or an entry, and no entry is below it
  have key : ∀ s : Finset (Fin 8),
      ((s.fold IntOp.minsi 2147483647#32 f) = 2147483647#32 ∨ ∃ k ∈ s, s.fold IntOp.minsi 2147483647#32 f = f k)
      ∧ ∀ k ∈ s, (s.fold IntOp.minsi 2147483647#32 f).toNat ≤ (f k).toNat := by
    intro s
    induction s using Finset.induction_on with
    | empty => exact ⟨Or.inl rfl, fun k hk => absurd hk (Finset.notMem_empty k)⟩
    | insert a s ha ih =>
      rw [Finset.fold_insert ha]
      have hlt : (s.fold IntOp.minsi 2147483647#32 f).toNat < 2147483648 := by
        rcases ih.1 with e | ⟨k, _, e⟩
        · rw [e]; decide
        · rw [e]; have := small k; omega
      have hfa := small a
      rw [step _ _ (by omega) hlt]
      refine ⟨Or.inr ?_, fun k hk => ?_⟩
      · split
        · exact ⟨a, Finset.mem_insert_self a s, rfl⟩
        · rename_i hn
          rcases ih.1 with e | ⟨k, hk, e⟩
          · rw [e] at hn; exact absurd (show (f a).toNat < (2147483647#32 : BitVec 32).toNat by
              rw [show (2147483647#32 : BitVec 32).toNat = 2147483647 by decide]; omega) hn
          · exact ⟨k, Finset.mem_insert_of_mem hk, e⟩
      · rcases Finset.mem_insert.mp hk with rfl | hk
        · split <;> omega
        · have := ih.2 k hk
          split <;> omega
  obtain ⟨k0, h0⟩ := hP
  obtain ⟨h1, h2⟩ := key Finset.univ
  have hk0 := h2 k0 (Finset.mem_univ _)
  have e0 : (f k0).toNat = k0.val := by
    rw [hf, if_pos h0, BitVec.toNat_ofNat]; have := k0.isLt; omega
  rcases h1 with e | ⟨k, _, e⟩
  · rw [e, e0, show (2147483647#32 : BitVec 32).toNat = 2147483647 by decide] at hk0
    have := k0.isLt; omega
  · by_cases hk : P k
    · exact ⟨k, hk, by rw [e, hf, if_pos hk]⟩
    · rw [e, e0, hf, if_neg hk, show (8#32 : BitVec 32).toNat = 8 by decide] at hk0
      have := k0.isLt; omega

/-- Eight quotients as a softmax leaves them: none negative, or all the value a quotient of zeros has. -/
def Quotients (p : Fin 8 → EReal) : Prop := (∀ k, 0 ≤ p k) ∨ ∀ k, p k = ⊥

/-- A softmax of eight extended reals. -/
def soft (l : Fin 8 → EReal) : Fin 8 → EReal :=
  fun k => Ideal.div (Ideal.exp (l k - top l)) (∑ j, Ideal.exp (l j - top l))

theorem exp_nonneg (x : EReal) : 0 ≤ Ideal.exp x := by
  induction x using EReal.rec with
  | bot => simp
  | top => simp
  | coe r => rw [Ideal.exp_coe]; exact_mod_cast (Real.exp_pos r).le

theorem soft_quotients (l : Fin 8 → EReal) : Quotients (soft l) := by
  by_cases hs : (∑ j, Ideal.exp (l j - top l)) = 0
  · right
    intro k
    have hz : Ideal.exp (l k - top l) = 0 :=
      (Finset.sum_eq_zero_iff_of_nonneg fun j _ => exp_nonneg _).mp hs k (Finset.mem_univ k)
    show Ideal.div _ _ = _
    rw [hs, hz]
    simp [Ideal.div]
  · left
    intro k
    show 0 ≤ Ideal.div _ _
    rw [Ideal.div, if_neg hs]
    exact mul_nonneg (exp_nonneg _) (EReal.inv_nonneg_of_nonneg (Finset.sum_nonneg fun j _ => exp_nonneg _))

/-- The kernel's two weights are the reference's. -/
theorem weights_eq (p : Fin 8 → EReal) (hp : Quotients p) (a : Fin 8) (ha : p a = top p) :
    Ideal.div (top p) (top p + top (masked p a (-1))) = Ideal.div (p (order p 0)) (p (order p 0) + p (order p 1))
    ∧ Ideal.div (top (masked p a (-1))) (top p + top (masked p a (-1))) = Ideal.div (p (order p 1)) (p (order p 0) + p (order p 1)) := by
  have e0 := sorted_zero p (order p) (order_bijective p) (order_sorted p)
  have e1 := sorted_one p (order p) (order_bijective p) (order_sorted p) a ha (-1)
  rw [e1, ← e0]
  rcases hp with hp | hp
  · have : max (-1) (p (order p 1)) = p (order p 1) := max_eq_right (le_trans (EReal.neg_le_zero.mpr zero_le_one) (hp _))
    rw [this]
    exact ⟨rfl, rfl⟩
  · rw [hp, hp]
    have hm : max (-1 : EReal) ⊥ = -1 := max_eq_left bot_le
    rw [hm]
    constructor <;> simp [Ideal.div]

end Cert.Proof.Routing
-- ==== Proof.Routing.lean ====
/-
  The router's first result: what the kernel leaves in it, read row by row, and its equality with the reference's.
-/
module

public import proofs.«01_k».proof.Proof.TopTwo
public import proofs.«01_k».proof.Proof.Gen.RouterIdeal.Skeleton
public import proofs.«01_k».proof.Proof.Gen.RouterReferenceIdeal
public import Idealize.ShloMosaic.Lib.ValueIdxCore
public import Idealize.ShloMosaic.Lib.KernelVsHost
public import Idealize.ShloMosaic.Lib.Pipeline.Value

@[expose] public section

noncomputable section

namespace Cert.Proof.Routing

open Idealize.ShloMosaic
open Idealize.ShloMosaic.ValueIdx

abbrev Rows8 : Shape := ⟨2, ![2048, 8]⟩

/-- A row of a table of eight columns. -/
abbrev row (v : Rows8.Idx → EReal) (r : Fin 2048) : Fin 8 → EReal := fun k => v (ix2 r k)

theorem neg_inf : Ideal.ofBits .f32 0xFF800000#32 = (⊥ : EReal) := by simp [Ideal.ofBits, Ideal.ieee]

theorem neg_one : Ideal.ofBits .f32 0xBF800000#32 = (-1 : EReal) := by
  simp [Ideal.ofBits, Ideal.ieee, -EReal.coe_mul]; norm_num

section Kernel

open Cert.RouterIdeal Cert.RouterIdeal.Gen

theorem lift_row (h : Rows8.Reduces [1] ⟨1, ![2048]⟩) (r : Fin 2048) (k : Fin 8) :
    h.lift (ix1 r) k = (ix2 r k : Rows8.Idx) := by
  funext a
  match a with
  | ⟨0, _⟩ => rfl
  | ⟨1, _⟩ => rfl

/-- A row's maximum. -/
theorem max_row (v : FVec Ideal Rows8 .f32) (h : Rows8.Reduces [1] ⟨1, ![2048]⟩) (hφ : FKind.Formats .f32)
    (hacc : 0xFF800000#32 = FKind.maximumf.neutral .f32 hφ) (r : Fin 2048) :
    multiReduction .maximumf [1] ⟨1, ![2048]⟩ v 0xFF800000#32 h hφ hacc (ix1 r) = top (row v r) := by
  rw [Ideal.multiReduction_maximumf_single]
  show (Finset.univ : Finset (Fin 8)).fold max (Ideal.ofBits .f32 0xFF800000#32) (v ∘ h.lift (ix1 r)) = _
  rw [neg_inf]
  exact congrArg (fun f => (Finset.univ : Finset (Fin 8)).fold max ⊥ f) (funext fun k => congrArg v (lift_row h r k))

/-- A row's sum. -/
theorem sum_row (v : FVec Ideal Rows8 .f32) (h : Rows8.Reduces [1] ⟨1, ![2048]⟩) (hφ : FKind.Formats .f32)
    (hacc : 0x00000000#32 = FKind.add.neutral .f32 hφ) (r : Fin 2048) :
    multiReduction .add [1] ⟨1, ![2048]⟩ v 0x00000000#32 h hφ hacc (ix1 r) = ∑ k, row v r k := by
  rw [Ideal.multiReduction_add_single]
  exact Finset.sum_congr rfl fun k _ => congrArg v (lift_row h r k)

variable {α : Type}

/-- A column laid out as a table of one column. -/
theorem column_apply (w : S2048.Idx → α) (h : S2048.ShapeCasts S2048x1) (r : Fin 2048) :
    shapeCast S2048x1 w h (ix2 r 0) = w (ix1 r) := by
  refine shapeCast_apply w h _ _ ?_
  rw [Shape.rowMajor_val_one, Shape.rowMajor_val_two]
  simp [ix1, ix2]

/-- A table of one column repeated along the rows. -/
theorem repeat_apply (w : S2048x1.Idx → α) (h : S2048x1.Broadcasts S2048x8) (r : Fin 2048) (k : Fin 8) :
    broadcastTo S2048x8 w h (ix2 r k) = w (ix2 r 0) := by
  refine broadcastTo_apply w h _ _ fun a => ?_
  match a with
  | ⟨0, _⟩ => rfl
  | ⟨1, _⟩ => rfl

variable (x : FVec Ideal S2048x1024 .f32) (g : FVec Ideal S8x1024 .f32)

/-- The router's logits. -/
def logits : FVec Ideal Rows8 .f32 := matmul dot_S2048x1024_S8x1024_S2048x8_1_1_0_0_n_n none x g (constant S2048x8 .f32 0x00000000#32)

/-- The greatest of each row, repeated along its row, at an entry. -/
theorem colmax_apply (v : FVec Ideal S2048x8 .f32) (hφ : FKind.Formats .f32) (hacc : 0xFF800000#32 = FKind.maximumf.neutral .f32 hφ) (r : Fin 2048) :
    shapeCast S2048x1 (multiReduction .maximumf [1] S2048 v 0xFF800000#32 reduces_S2048x8_S2048 hφ hacc) shapeCasts_S2048_S2048x1 (ix2 r 0) = top (row v r) :=
  (column_apply _ _ r).trans (max_row v _ _ _ r)

/-- The sum of each row at an entry. -/
theorem colsum_apply (v : FVec Ideal S2048x8 .f32) (hφ : FKind.Formats .f32) (hacc : 0x00000000#32 = FKind.add.neutral .f32 hφ) (r : Fin 2048) :
    shapeCast S2048x1 (multiReduction .add [1] S2048 v 0x00000000#32 reduces_S2048x8_S2048 hφ hacc) shapeCasts_S2048_S2048x1 (ix2 r 0) = ∑ k, row v r k :=
  (column_apply _ _ r).trans (sum_row v _ _ _ r)

theorem divf_at {s : Shape} (a b : FVec Ideal s .f32) (i : s.Idx) : divf a b i = Ideal.div (a i) (b i) := rfl
theorem divf_addf_at {s : Shape} (a b c : FVec Ideal s .f32) (i : s.Idx) : divf a (addf b c) i = Ideal.div (a i) (b i + c i) := rfl
theorem exp_subf_at {s : Shape} (a b : FVec Ideal s .f32) (i : s.Idx) : exp (subf a b) i = Ideal.exp (a i - b i) := rfl

/-- The exponentials of the logits less their rows' greatest. -/
def expo : FVec Ideal S2048x8 .f32 :=
  exp (subf (logits x g) (broadcastTo S2048x8 (shapeCast S2048x1 (multiReduction .maximumf [1] S2048 (logits x g) 0xFF800000#32 reduces_S2048x8_S2048 (.inl rfl) rfl) shapeCasts_S2048_S2048x1) broadcasts_S2048x1_S2048x8))

theorem expo_apply (r : Fin 2048) (k : Fin 8) : expo x g (ix2 r k) = Ideal.exp (row (logits x g) r k - top (row (logits x g) r)) :=
  (exp_subf_at _ _ _).trans (congrArg (fun t => Ideal.exp (logits x g (ix2 r k) - t)) ((repeat_apply _ _ r k).trans (colmax_apply _ _ _ r)))

theorem pay1_eq : k0_pay1 (F := Ideal) x g = divf (expo x g) (broadcastTo S2048x8 (shapeCast S2048x1 (multiReduction .add [1] S2048 (expo x g) 0x00000000#32 reduces_S2048x8_S2048 (.inl rfl) rfl) shapeCasts_S2048_S2048x1) broadcasts_S2048x1_S2048x8) := rfl

theorem pay1_row (r : Fin 2048) : row (k0_pay1 (F := Ideal) x g) r = soft (row (logits x g) r) := by
  funext k
  refine (congrFun (pay1_eq x g) (ix2 r k)).trans ((divf_at _ _ _).trans ?_)
  refine congrArg₂ Ideal.div (expo_apply x g r k) ?_
  exact ((repeat_apply _ _ r k).trans (colsum_apply _ _ _ r)).trans (Finset.sum_congr rfl fun j _ => expo_apply x g r j)

theorem pay2_apply (r : Fin 2048) : k0_pay2 (F := Ideal) x g (ix2 r 0) = top (row (k0_pay1 (F := Ideal) x g) r) :=
  colmax_apply (k0_pay1 (F := Ideal) x g) (.inl rfl) rfl r

/-- The places of the greatest, as the kernel marks them. -/
def marks : IVec S2048x8 32 :=
  select (cmpf .oeq (k0_pay1 (F := Ideal) x g) (broadcastTo S2048x8 (k0_pay2 (F := Ideal) x g) broadcasts_S2048x1_S2048x8)) (iota .tc S2048x8 32 [1] iota_S2048x8_d1_w32) (broadcast S2048x8 8#32)

theorem marks_apply (r : Fin 2048) (k : Fin 8) :
    marks x g (ix2 r k) = if row (k0_pay1 (F := Ideal) x g) r k = top (row (k0_pay1 (F := Ideal) x g) r) then BitVec.ofNat 32 k.val else 8#32 := by
  have e1 : marks x g (ix2 r k) = Scalar.select (Ideal.cmp .oeq (k0_pay1 (F := Ideal) x g (ix2 r k)) (broadcastTo S2048x8 (k0_pay2 (F := Ideal) x g) broadcasts_S2048x1_S2048x8 (ix2 r k))) (iota .tc S2048x8 32 [1] iota_S2048x8_d1_w32 (ix2 r k)) 8#32 := rfl
  rw [e1, iota_single_apply, (repeat_apply _ _ r k).trans (pay2_apply x g r)]
  show Scalar.select _ (BitVec.ofNat 32 k.val) 8#32 = _
  by_cases h : row (k0_pay1 (F := Ideal) x g) r k = top (row (k0_pay1 (F := Ideal) x g) r)
  · rw [if_pos h, show k0_pay1 (F := Ideal) x g (ix2 r k) = top (row (k0_pay1 (F := Ideal) x g) r) from h]; simp [Ideal.cmp, Scalar.select]
  · have h' : ¬ k0_pay1 (F := Ideal) x g (ix2 r k) = top (row (k0_pay1 (F := Ideal) x g) r) := h
    rw [if_neg h]; simp [Ideal.cmp, Scalar.select, h']

theorem minsi_row (v : IVec S2048x8 32) (hacc : 2147483647#32 = IKind.minsi.neutral) (r : Fin 2048) :
    shapeCast S2048x1 (multiReductionI .minsi [1] S2048 v 2147483647#32 reduces_S2048x8_S2048 hacc) shapeCasts_S2048_S2048x1 (ix2 r 0)
      = (Finset.univ : Finset (Fin 8)).fold IntOp.minsi 2147483647#32 (fun k => v (ix2 r k)) := by
  refine (column_apply _ _ r).trans ((multiReductionI_eq_fold _ _ _ _ _ _).trans ?_)
  refine ((reduces_S2048x8_S2048).fold_filter_drop_single _ _ _ _).trans ?_
  exact congrArg (fun f => Finset.fold IntOp.minsi 2147483647#32 f Finset.univ) (funext fun k => congrArg v (lift_row reduces_S2048x8_S2048 r k))

theorem pay3_eq : k0_pay3 (F := Ideal) x g = shapeCast S2048x1 (multiReductionI .minsi [1] S2048 (marks x g) 2147483647#32 reduces_S2048x8_S2048 rfl) shapeCasts_S2048_S2048x1 := rfl

/-- The kernel's first choice is a greatest of its row. -/
theorem pay3_apply (r : Fin 2048) : ∃ a : Fin 8, row (k0_pay1 (F := Ideal) x g) r a = top (row (k0_pay1 (F := Ideal) x g) r) ∧ k0_pay3 (F := Ideal) x g (ix2 r 0) = BitVec.ofNat 32 a.val := by
  obtain ⟨a, ha, e⟩ := first_place (fun k => marks x g (ix2 r k)) (fun k => row (k0_pay1 (F := Ideal) x g) r k = top (row (k0_pay1 (F := Ideal) x g) r))
    (fun k => by rw [marks_apply]) (exists_eq_top _)
  exact ⟨a, ha, (congrFun (pay3_eq x g) (ix2 r 0)).trans ((minsi_row _ _ r).trans e)⟩

theorem pay4_at (r : Fin 2048) (k : Fin 8) : k0_pay4 (F := Ideal) x g (ix2 r k) = Scalar.select (IntOp.cmpi .eq (iota .tc S2048x8 32 [1] iota_S2048x8_d1_w32 (ix2 r k)) (broadcastTo S2048x8 (k0_pay3 (F := Ideal) x g) broadcasts_S2048x1_S2048x8 (ix2 r k))) (Ideal.ofBits .f32 0xBF800000#32) (k0_pay1 (F := Ideal) x g (ix2 r k)) := rfl

theorem pay5_apply (r : Fin 2048) : ∃ a : Fin 8, row (k0_pay1 (F := Ideal) x g) r a = top (row (k0_pay1 (F := Ideal) x g) r)
    ∧ k0_pay5 (F := Ideal) x g (ix2 r 0) = top (masked (row (k0_pay1 (F := Ideal) x g) r) a (-1)) := by
  obtain ⟨a, ha, e⟩ := pay3_apply x g r
  refine ⟨a, ha, (colmax_apply (k0_pay4 (F := Ideal) x g) (.inl rfl) rfl r).trans ?_⟩
  refine congrArg top (funext fun k => (pay4_at x g r k).trans ?_)
  rw [iota_single_apply, (repeat_apply _ _ r k).trans e, neg_one]
  show Scalar.select (IntOp.cmpi .eq (BitVec.ofNat 32 k.val) _) _ _ = _
  have hk : BitVec.ofNat 32 k.val = BitVec.ofNat 32 a.val ↔ k = a := by
    constructor
    · intro h
      have := congrArg BitVec.toNat h
      rw [BitVec.toNat_ofNat, BitVec.toNat_ofNat] at this
      have := k.isLt; have := a.isLt; omega
    · rintro rfl; rfl
  by_cases h : k = a
  · subst h; simp [IntOp.cmpi, Scalar.select, masked]
  · have h' : (BitVec.ofNat 32 k.val == BitVec.ofNat 32 a.val) = false := beq_eq_false_iff_ne.mpr fun e => h (hk.mp e)
    rw [show masked (row (k0_pay1 (F := Ideal) x g) r) a (-1) k = row (k0_pay1 (F := Ideal) x g) r k from if_neg h]
    simp [IntOp.cmpi, Scalar.select, h']

/-- The kernel's weights: of a token's eight probabilities the two that come first downwards, over their sum. -/
theorem pay6_apply (r : Fin 2048) (k : Fin 2) (p : Fin 8 → EReal) (hp : p = row (k0_pay1 (F := Ideal) x g) r) :
    k0_pay6 (F := Ideal) x g (ix2 r k) = Ideal.div (p (order p (k.castLE (by decide)))) (p (order p 0) + p (order p 1)) := by
  subst hp
  obtain ⟨a, ha, e5⟩ := pay5_apply x g r
  have e2 := pay2_apply x g r
  obtain ⟨w0, w1⟩ := weights_eq (row (k0_pay1 (F := Ideal) x g) r) (by rw [pay1_row]; exact soft_quotients _) a ha
  unfold k0_pay6
  have h0 : divf (k0_pay2 (F := Ideal) x g) (addf (k0_pay2 (F := Ideal) x g) (k0_pay5 (F := Ideal) x g)) (ix2 r 0) = Ideal.div (k0_pay2 (F := Ideal) x g (ix2 r 0)) (k0_pay2 (F := Ideal) x g (ix2 r 0) + k0_pay5 (F := Ideal) x g (ix2 r 0)) :=
    divf_addf_at _ _ _ _
  have h1 : divf (k0_pay5 (F := Ideal) x g) (addf (k0_pay2 (F := Ideal) x g) (k0_pay5 (F := Ideal) x g)) (ix2 r 0) = Ideal.div (k0_pay5 (F := Ideal) x g (ix2 r 0)) (k0_pay2 (F := Ideal) x g (ix2 r 0) + k0_pay5 (F := Ideal) x g (ix2 r 0)) :=
    divf_addf_at _ _ _ _
  rw [e2, e5] at h0 h1
  match k with
  | ⟨0, _⟩ =>
    refine Eq.trans ?_ (h0.trans w0)
    refine concatenate_pair_apply_left (s₁ := S2048x1) (s₂ := S2048x1) (t := S2048x2) 1 _ _ concatenates_S2048x1_S2048x1_S2048x2_d1 (ix2 r 0) rfl (ix2 r 0) ?_
    intro b
    match b with
    | ⟨0, _⟩ => rfl
    | ⟨1, _⟩ => rfl
  | ⟨1, _⟩ =>
    refine Eq.trans ?_ (h1.trans w1)
    refine concatenate_pair_apply_right (s₁ := S2048x1) (s₂ := S2048x1) (t := S2048x2) 1 _ _ concatenates_S2048x1_S2048x1_S2048x2_d1 (ix2 r 1) rfl rfl (ix2 r 0) ?_ ?_
    · intro b hb
      match b with
      | ⟨0, _⟩ => rfl
      | ⟨1, _⟩ => exact absurd rfl hb
    · rfl

end Kernel

section Reference

open Cert.RouterReferenceIdeal Cert.RouterReferenceIdeal.Gen

variable {α : Type}

theorem spread_apply (w : S2048.Idx → α) (r : Fin 2048) (k : Fin 8) :
    broadcastInDim S2048x8 ![0, 1] bcast_S2048x1_S2048x8_0_1 (broadcastInDim S2048x1 ![0] bcast_S2048_S2048x1_0 w) (ix2 r k) = w (ix1 r) := by
  refine (broadcastInDim_apply (s := S2048x1) (t := S2048x8) _ _ _ _ (ix2 r 0) fun a => ?_).trans (broadcastInDim_apply (s := S2048) (t := S2048x1) _ _ _ _ (ix1 r) fun a => ?_)
  · match a with
    | ⟨0, _⟩ => rfl
    | ⟨1, _⟩ => rfl
  · match a with
    | ⟨0, _⟩ => rfl

theorem spread2_apply (w : S2048.Idx → α) (r : Fin 2048) (k : Fin 2) :
    broadcastInDim S2048x2 ![0, 1] bcast_S2048x1_S2048x2_0_1 (broadcastInDim S2048x1 ![0] bcast_S2048_S2048x1_0 w) (ix2 r k) = w (ix1 r) := by
  refine (broadcastInDim_apply (s := S2048x1) (t := S2048x2) _ _ _ _ (ix2 r 0) fun a => ?_).trans (broadcastInDim_apply (s := S2048) (t := S2048x1) _ _ _ _ (ix1 r) fun a => ?_)
  · match a with
    | ⟨0, _⟩ => rfl
    | ⟨1, _⟩ => rfl
  · match a with
    | ⟨0, _⟩ => rfl

/-- The reference's softmax of a table of logits, as it is printed. -/
abbrev probsOf (l : FVec Ideal S2048x8 .f32) : FVec Ideal S2048x8 .f32 :=
  Host.divf (Host.exp (subf l (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf l (constant S_ .f32 0xFF800000#32) reducesTo_S2048x8_S2048_d1 h_S_))))))
    (broadcastInDim S2048x8 ![0, 1] bcast_S2048x1_S2048x8_0_1 (broadcastInDim S2048x1 ![0] bcast_S2048_S2048x1_0 (Host.reduceAdd (Host.exp (subf l (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf l (constant S_ .f32 0xFF800000#32) reducesTo_S2048x8_S2048_d1 h_S_)))))) (constant S_ .f32 0x00000000#32) reducesTo_S2048x8_S2048_d1 h_S_)))

/-- The reference's two weights of a table of probabilities, as they are printed. -/
abbrev weightsOf (p : FVec Ideal S2048x8 .f32) : FVec Ideal S2048x2 .f32 :=
  Host.divf ((Host.topK S2048x2 1 (FloatOps.cmpfTotal .gt) p sliceFits_S2048x8_S2048x2).1)
    (broadcastInDim S2048x2 ![0, 1] bcast_S2048x1_S2048x2_0_1 (broadcastInDim S2048x1 ![0] bcast_S2048_S2048x1_0 (Host.reduceAdd ((Host.topK S2048x2 1 (FloatOps.cmpfTotal .gt) p sliceFits_S2048x8_S2048x2).1) (constant S_ .f32 0x00000000#32) reducesTo_S2048x2_S2048_d1 h_S_)))

theorem reduces8 : Rows8.Reduces [1] ⟨1, ![2048]⟩ := Cert.RouterIdeal.Gen.facts₀.reduces_S2048x8_S2048

/-- A row's maximum, as the reference takes it. -/
theorem hostMax_row (l : FVec Ideal S2048x8 .f32) (r : Fin 2048) :
    Host.reduce FloatOps.maximumf l (constant S_ .f32 0xFF800000#32) reducesTo_S2048x8_S2048_d1 h_S_ (ix1 r) = top (row l r) :=
  (congrFun (hostReduce_maximumf_eq_multiReduction l 0xFF800000#32 reducesTo_S2048x8_S2048_d1 h_S_ reduces8 (.inl rfl) rfl) (ix1 r)).trans
    (max_row l reduces8 (.inl rfl) rfl r)

/-- A row's sum, as the reference takes it. -/
theorem hostSum_row (v : FVec Ideal S2048x8 .f32) (r : Fin 2048) :
    Host.reduceAdd v (constant S_ .f32 0x00000000#32) reducesTo_S2048x8_S2048_d1 h_S_ (ix1 r) = ∑ k, row v r k :=
  (congrFun (multiReduction_add_eq_hostReduceAdd v 0x00000000#32 reduces8 (.inl rfl) rfl (constant S_ .f32 0x00000000#32) reducesTo_S2048x8_S2048_d1 h_S_ Ideal.ofBits_zero_f32) (ix1 r)).symm.trans
    (sum_row v reduces8 (.inl rfl) rfl r)

theorem probsOf_row (l : FVec Ideal S2048x8 .f32) (r : Fin 2048) : row (probsOf l) r = soft (row l r) := by
  have e : ∀ k, Host.exp (subf l (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf l (constant S_ .f32 0xFF800000#32) reducesTo_S2048x8_S2048_d1 h_S_))))) (ix2 r k)
      = Ideal.exp (row l r k - top (row l r)) := by
    intro k
    show Ideal.exp (l (ix2 r k) - broadcastInDim S2048x8 _ _ _ (ix2 r k)) = _
    rw [spread_apply]
    show Ideal.exp (l (ix2 r k) - max (Ideal.ofBits .f32 0xFF800000#32) (Host.reduce FloatOps.maximumf l (constant S_ .f32 0xFF800000#32) reducesTo_S2048x8_S2048_d1 h_S_ (ix1 r))) = _
    rw [neg_inf, hostMax_row, max_eq_right bot_le]
  funext k
  show Ideal.div (Host.exp (subf l _) (ix2 r k)) (broadcastInDim S2048x8 _ _ _ (ix2 r k)) = _
  rw [spread_apply, e, hostSum_row]
  unfold soft
  exact congrArg _ (Finset.sum_congr rfl fun j _ => e j)

theorem topK_apply (p : FVec Ideal S2048x8 .f32) (r : Fin 2048) (k : Fin 2) :
    (Host.topK S2048x2 1 (FloatOps.cmpfTotal .gt) p sliceFits_S2048x8_S2048x2).1 (ix2 r k) = row p r (order (row p r) (k.castLE (by decide))) := by
  have hal : ∀ (j : S2048x8.Idx) (q : Fin 8), Shape.Idx.along j 1 q = (ix2 (j 0) q : S2048x8.Idx) := by
    intro j q
    funext a
    match a with
    | ⟨0, _⟩ => rfl
    | ⟨1, _⟩ => rfl
  have hsl : ∀ f : S2048x8.Idx → EReal, extractStridedSlice S2048x2 (fun _ => 0) f sliceFits_S2048x8_S2048x2 (ix2 r k) = f (ix2 r (k.castLE (by decide))) := by
    intro f
    refine congrArg f (funext fun a => Fin.ext ?_)
    match a with
    | ⟨0, _⟩ => exact Nat.zero_add _
    | ⟨1, _⟩ => exact Nat.zero_add _
  refine (hsl (Host.sort2 S2048x8 1 (fun l r => FloatOps.cmpfTotal (F := Ideal) (φ := .f32) .gt l.1 r.1) p (fun i => if hd : 1 < S2048x8.rank then iotaInDim S2048x8 32 ⟨1, hd⟩ i else 0#32)).1).trans ?_
  refine (congrArg p (hal _ _)).trans ?_
  refine congrArg (fun B => p (ix2 r (sortedFrom B (k.castLE (by decide))))) (funext fun q => funext fun q' => ?_)
  exact congrArg₂ (fun u v => FloatOps.cmpfTotal (F := Ideal) (φ := .f32) .gt (p u) (p v) == 1#1) (hal _ q) (hal _ q')

theorem weightsOf_apply (v : FVec Ideal S2048x8 .f32) (r : Fin 2048) (k : Fin 2) (p : Fin 8 → EReal) (hp : p = row v r) :
    weightsOf v (ix2 r k) = Ideal.div (p (order p (k.castLE (by decide)))) (p (order p 0) + p (order p 1)) := by
  subst hp
  show Ideal.div ((Host.topK S2048x2 1 (FloatOps.cmpfTotal .gt) v sliceFits_S2048x8_S2048x2).1 (ix2 r k)) (broadcastInDim S2048x2 _ _ _ (ix2 r k)) = _
  rw [spread2_apply, topK_apply]
  refine congrArg _ ?_
  have h2 : S2048x2.Reduces [1] S2048 := by decide
  show Ideal.hostReduceAdd reducesTo_S2048x2_S2048_d1 _ (Ideal.ofBits .f32 0x00000000#32) (ix1 r) = _
  rw [Ideal.hostReduceAdd_single _ h2, Ideal.ofBits_zero_f32, zero_add]
  have hl : ∀ q : Fin 2, h2.lift (ix1 r) q = (ix2 r q : S2048x2.Idx) := by
    intro q
    funext a
    match a with
    | ⟨0, _⟩ => rfl
    | ⟨1, _⟩ => rfl
  show ∑ q : Fin 2, _ = _
  rw [Fin.sum_univ_two, hl, hl, topK_apply, topK_apply]
  rfl

variable (x : FVec Ideal S2048x1024 .f32) (g : FVec Ideal S8x1024 .f32)

theorem logits_eq : logits x g = Host.dotGeneral dot_S2048x1024_S1024x8_S2048x8_1_0_0_1_n_n none x (transpose S1024x8 [1, 0] g transposes_S8x1024_S1024x8_1_0) := by
  funext j
  unfold logits
  show FloatOps.matmul _ none x g (constant Rows8 .f32 0x00000000#32) j = FloatOps.dotGeneral _ none _ x _ j
  rw [Ideal.matmul_constant_zero_apply, Ideal.dotGeneral_apply]
  refine Finset.sum_congr rfl fun k _ => ?_
  refine congrArg₂ (· * ·) (congrArg x ?_) (Eq.symm (transpose_apply _ g _ _ _ fun b => ?_))
  · funext a
    match a with
    | ⟨0, _⟩ => rfl
    | ⟨1, _⟩ => rfl
  · match b with
    | ⟨0, _⟩ => rfl
    | ⟨1, _⟩ => rfl

/-- The kernel's weights are the reference's. -/
theorem weights_agree : weightsOf (probsOf (Host.dotGeneral dot_S2048x1024_S1024x8_S2048x8_1_0_0_1_n_n none x (transpose S1024x8 [1, 0] g transposes_S8x1024_S1024x8_1_0)))
    = Cert.RouterIdeal.Gen.k0_pay6 (F := Ideal) x g := by
  rw [← logits_eq]
  funext y
  obtain ⟨r, k, rfl⟩ : ∃ (r : Fin 2048) (k : Fin 2), y = ix2 r k := ⟨y 0, y 1, by
    funext a
    match a with
    | ⟨0, _⟩ => rfl
    | ⟨1, _⟩ => rfl⟩
  rw [weightsOf_apply _ r k _ rfl, pay6_apply x g r k _ rfl, pay1_row, probsOf_row]

end Reference

end Cert.Proof.Routing
-- ==== Proof.Experts.lean ====
/- The experts' products: the pipeline's body, point by point. -/
module

public import proofs.«01_k».proof.Proof.Gen.ExpertsIdeal.Launch
public import proofs.«01_k».proof.Proof.Gen.ExpertsIdeal.Skeleton
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.VecWindow
public import Idealize.ShloMosaic.Lib.WritesUnit
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

abbrev tbM : Memref sig .tc .smem S1x32 .i32 := Memref.whole main_arg4
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The table's word at a point's block, as the body loads it. -/
abbrev word (c : Dev nD) (f : Buf (Elt F) (tbM.view.loc (c : Thread nD τ))) (i : grid0.Coords) : BitVec 32 :=
  View.readAt (Elt F) tbM.view (Rect.unit (s := S1x32) (k0_off1 i) S1x1.size (k0_off1_inb i)).toLoadRect f
    (Shape.Idx.first (numel1_S1x1 ▸ Nat.one_pos))

/-- The chunk's products, from the blocks. -/
abbrev prod (x3 : Vec F S256x512 .i32) (x4 x5 : Vec F S1x512x1024 .f32) (x6 : Vec F S1x1024x512 .f32) (x7 : Vec F S256x1 .f32) :
    FVec F S256x1024 .f32 := k0_pay2 x3 x4 x5 x7 x6

/-- What the body leaves in the output's buffer. -/
def step (w : BitVec 32) (i : grid0.Coords) (x3 : Vec F S256x512 .i32) (x4 x5 : Vec F S1x512x1024 .f32) (x6 : Vec F S1x1024x512 .f32)
    (x7 : Vec F S256x1 .f32) (y : Vec F S6144x1024 .f32) : Vec F S6144x1024 .f32 :=
  if k0_cond1 w = 1#1 then
    if k0_cond2 i = 1#1 then VecWindow.put y (k0_off2 i) S256x1024.size (prod x3 x4 x5 x6 x7)
    else if h3 : k0_cond3 i = 1#1 then
      VecWindow.put y (k0_off3 i) S256x1024.size
        (k0_pay1 (prod x3 x4 x5 x6 x7) (VecWindow.window y (k0_off3 i) S256x1024.size (k0_off3_inb i h3)))
    else y
  else y

/-- The first chunk is the one that overwrites; the later ones are those that add. -/
theorem cond3_iff (i : grid0.Coords) : k0_cond3 i = 1#1 ↔ ¬ k0_cond2 i = 1#1 := by
  have h : ∀ a : Fin 7, (Scalar.cmpi .ne (Scalar.extui (Scalar.cmpi .sgt (BitVec.ofNat 32 a.val) 0#32) : BitVec 32) 0#32 = 1#1)
      ↔ ¬ (Scalar.cmpi .ne (Scalar.extui (Scalar.cmpi .eq (BitVec.ofNat 32 a.val) 0#32) : BitVec 32) 0#32 = 1#1) := by decide
  exact h (i 0)

/-- The products of the blocks as loaded. -/
theorem loads_eq (arg3 : Memref sig .tc .vmem S256x512 .i32) (arg4 : Memref sig .tc .vmem S1x512x1024 .f32)
    (arg5 : Memref sig .tc .vmem S1x512x1024 .f32) (arg6 : Memref sig .tc .vmem S1x1024x512 .f32) (arg7 : Memref sig .tc .vmem S256x1 .f32)
    (f3 : arg3.view.ty.Contents (Elt F)) (f4 : arg4.view.ty.Contents (Elt F)) (f5 : arg5.view.ty.Contents (Elt F))
    (f6 : arg6.view.ty.Contents (Elt F)) (f7 : arg7.view.ty.Contents (Elt F)) :
    k0_pay2 (arg3.view.readAt (Elt F) (Rect.unit (s := S256x512) ![0, 0] S256x512.size inb_S256x512_S256x512_0_0).toLoadRect f3)
      (arg4.view.readAt (Elt F) (Rect.unit (s := S1x512x1024) ![0, 0, 0] S1x512x1024.size inb_S1x512x1024_S1x512x1024_0_0_0).toLoadRect f4)
      (arg5.view.readAt (Elt F) (Rect.unit (s := S1x512x1024) ![0, 0, 0] S1x512x1024.size inb_S1x512x1024_S1x512x1024_0_0_0).toLoadRect f5)
      (arg7.view.readAt (Elt F) (Rect.unit (s := S256x1) ![0, 0] S256x1.size inb_S256x1_S256x1_0_0).toLoadRect f7)
      (arg6.view.readAt (Elt F) (Rect.unit (s := S1x1024x512) ![0, 0, 0] S1x1024x512.size inb_S1x1024x512_S1x1024x512_0_0_0).toLoadRect f6)
      = prod (arg3.view.read (Elt F) f3) (arg4.view.read (Elt F) f4) (arg5.view.read (Elt F) f5) (arg6.view.read (Elt F) f6)
          (arg7.view.read (Elt F) f7) := by
  rw [show arg3.view.readAt (Elt F) (Rect.unit (s := S256x512) ![0, 0] S256x512.size inb_S256x512_S256x512_0_0).toLoadRect f3 = _
      from View.readAt_full _ _ _,
    show arg4.view.readAt (Elt F) (Rect.unit (s := S1x512x1024) ![0, 0, 0] S1x512x1024.size inb_S1x512x1024_S1x512x1024_0_0_0).toLoadRect f4 = _
      from View.readAt_full _ _ _,
    show arg5.view.readAt (Elt F) (Rect.unit (s := S1x512x1024) ![0, 0, 0] S1x512x1024.size inb_S1x512x1024_S1x512x1024_0_0_0).toLoadRect f5 = _
      from View.readAt_full _ _ _,
    show arg7.view.readAt (Elt F) (Rect.unit (s := S256x1) ![0, 0] S256x1.size inb_S256x1_S256x1_0_0).toLoadRect f7 = _
      from View.readAt_full _ _ _,
    show arg6.view.readAt (Elt F) (Rect.unit (s := S1x1024x512) ![0, 0, 0] S1x1024x512.size inb_S1x1024x512_S1x1024x512_0_0_0).toLoadRect f6 = _
      from View.readAt_full _ _ _]

set_option maxHeartbeats 2000000 in
/-- The body at a point, from the blocks and the output's buffer as found. -/
theorem sound_kernel (c : Dev nD) (E : Set ℕ) (i : grid0.Coords)
    (arg3 : Memref sig .tc .vmem S256x512 .i32) (harg3 : arg3.IsWhole) (arg4 : Memref sig .tc .vmem S1x512x1024 .f32) (harg4 : arg4.IsWhole)
    (arg5 : Memref sig .tc .vmem S1x512x1024 .f32) (harg5 : arg5.IsWhole) (arg6 : Memref sig .tc .vmem S1x1024x512 .f32) (harg6 : arg6.IsWhole)
    (arg7 : Memref sig .tc .vmem S256x1 .f32) (harg7 : arg7.IsWhole) (arg8 : Memref sig .tc .vmem S6144x1024 .f32) (harg8 : arg8.IsWhole)
    (x3 : Vec F S256x512 .i32) (x4 x5 : Vec F S1x512x1024 .f32) (x6 : Vec F S1x1024x512 .f32) (x7 : Vec F S256x1 .f32)
    (x8 : Vec F S6144x1024 .f32)
    (f : Buf (Elt F) (tbM.view.loc (c : Thread nD τ))) (K : PUnit → sProp 𝕄) :
    iprop(tbPt c tbM f ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8
        ∗ (iprop(tbPt c tbM f ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare (step (word c f i) i x3 x4 x5 x6 x7 x8)) -∗ K ⟨⟩))
      ⊢ wp frame (wpE (defs₀ (F := F)) Variants.none c none) E
          (cc0__ffn_body i tbM (Memref.isWhole_whole _) arg3 harg3 arg4 harg4 arg5 harg5 arg6 harg6 arg7 harg7 arg8 harg8) K := by
  simp only [cc0__ffn_body_eq_skeleton]; unfold cc0__ffn_body_skel
  simp only [k0_part1_eq_skeleton]
  unfold owns
  iintro ⟨Ht, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  by_cases h1 : k0_cond1 (word c f i) = 1#1
  · by_cases h2 : k0_cond2 i = 1#1
    · have h3 : ¬ k0_cond3 i = 1#1 := fun h => (cond3_iff i).mp h h2
      sl_exec (disch := first | sl_exact h1 | sl_exact h2 | sl_exact h3)
      sl_step
      iapply Hk
      isplitl [Ht]; · iexact Ht
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      iexists _; isplitr
      swap; · iexact H8
      ipureintro
      refine (View.read_writes_cons_put _ _ _ _ _ rfl).trans ?_
      rw [View.writes_nil]
      unfold step; rw [if_pos h1, if_pos h2]
      refine congrArg (VecWindow.put _ _ _) ?_
      exact loads_eq arg3 arg4 arg5 arg6 arg7 f3 f4 f5 f6 f7
    · have h3 : k0_cond3 i = 1#1 := (cond3_iff i).mpr h2
      sl_exec (disch := first | sl_exact h1 | sl_exact h2 | sl_exact h3)
      sl_step
      iapply Hk
      isplitl [Ht]; · iexact Ht
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      iexists _; isplitr
      swap; · iexact H8
      ipureintro
      refine (View.read_writes_cons_put _ _ _ _ _ rfl).trans ?_
      rw [View.writes_nil]
      unfold step; rw [if_pos h1, if_neg h2, dif_pos h3]
      refine congrArg (VecWindow.put _ _ _) ?_
      exact congrArg₂ k0_pay1 (loads_eq arg3 arg4 arg5 arg6 arg7 f3 f4 f5 f6 f7) rfl
  · sl_exec (disch := first | sl_exact h1)
    sl_step
    iapply Hk
    isplitl [Ht]; · iexact Ht
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists _; isplitr
    swap; · iexact H8
    ipureintro
    unfold step; rw [if_neg h1]

variable (m : (ℓ : Loc nD τ sig) → Buf (Elt F) ℓ) (ρ : Dev nD → PrngReg)

/-- The buffers when the region is entered: as launched. -/
abbrev V (c : Dev nD) (b : Ref sig .tc) : Buf (Elt F) ((c : Thread nD τ).loc b) := m ((c : Thread nD τ).loc b)

/-- The table's contents. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every block the table names lies inside its array. -/
abbrev Ok : Prop := ok0 (F := F) (tbl m)

abbrev adm (hO : Ok m) : (pcfg0 (F := F)).Adm := ⟨tbl m, hO⟩
abbrev cfgM (hO : Ok m) : Cfg sig Λ₀ := cfg0 (adm m hO)

variable (hO : Ok m)

/-- A window's block at a point. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The table on a core, as the body is handed it. -/
abbrev tabOf (c : Dev nD) : Buf (Elt F) (tbM.view.loc (c : Thread nD τ)) := m ((c : Thread nD τ).loc main_arg4)

/-- What the body leaves in the output's buffer at a point, from what it found there. -/
def stepAt (c : Dev nD) (t : Fin (cfgM m hO).N) (y : Vec F S6144x1024 .f32) : Vec F S6144x1024 .f32 :=
  step (word c (tabOf m c) (grid0.coords t)) (grid0.coords t) (iblk m hO c 0 t) (iblk m hO c 1 t) (iblk m hO c 2 t) (iblk m hO c 3 t)
    (iblk m hO c 4 t) y

/-- The pipeline's proof data: the inputs' buffers are left as found, the output's by `stepAt`. -/
def rdat (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = stepAt m hO c t Y
  Φ _ := iprop(Pipeline.ΦA spec0 c ∗ Pipeline.ΦT pre0 (tbl m) c)
  q w := Pipeline.shareOf spec0 w
  owed _ := 0

theorem PhiT_eq (c : Dev nD) : (Pipeline.ΦT pre0 (tbl m) c : sProp 𝕄) = tbPt c tbM (tabOf m c) := by
  obtain rfl : c = 0 := Subsingleton.elim _ _
  unfold Pipeline.ΦT Pipeline.prefHeld
  rw [show (Finset.univ : Finset (Fin 1)) = {(0 : Fin 1)} from by decide, bigSep_singleton]
  rfl

/-- An input's buffer holds its block wherever the body is handed it. -/
theorem finds0 (c : Dev nD) (t : Fin (cfgM m hO).N) (Y) (h : (rdat m hO c).Finds 0 t Y) : Y = iblk m hO c 0 t := by
  obtain ⟨d, hd⟩ := (rdat m hO c).finds_in_eq_fetched 0 rfl (fun _ _ _ => rfl) (fun _ _ _ h => h) t Y h
  exact hd
theorem finds1 (c : Dev nD) (t : Fin (cfgM m hO).N) (Y) (h : (rdat m hO c).Finds 1 t Y) : Y = iblk m hO c 1 t := by
  obtain ⟨d, hd⟩ := (rdat m hO c).finds_in_eq_fetched 1 rfl (fun _ _ _ => rfl) (fun _ _ _ h => h) t Y h
  exact hd
theorem finds2 (c : Dev nD) (t : Fin (cfgM m hO).N) (Y) (h : (rdat m hO c).Finds 2 t Y) : Y = iblk m hO c 2 t := by
  obtain ⟨d, hd⟩ := (rdat m hO c).finds_in_eq_fetched 2 rfl (fun _ _ _ => rfl) (fun _ _ _ h => h) t Y h
  exact hd
theorem finds3 (c : Dev nD) (t : Fin (cfgM m hO).N) (Y) (h : (rdat m hO c).Finds 3 t Y) : Y = iblk m hO c 3 t := by
  obtain ⟨d, hd⟩ := (rdat m hO c).finds_in_eq_fetched 3 rfl (fun _ _ _ => rfl) (fun _ _ _ h => h) t Y h
  exact hd
theorem finds4 (c : Dev nD) (t : Fin (cfgM m hO).N) (Y) (h : (rdat m hO c).Finds 4 t Y) : Y = iblk m hO c 4 t := by
  obtain ⟨d, hd⟩ := (rdat m hO c).finds_in_eq_fetched 4 rfl (fun _ _ _ => rfl) (fun _ _ _ h => h) t Y h
  exact hd

/-- The body at a point, on the current buffers. -/
abbrev bodyAt (t : Fin (cfgM m hO).N) : Prog (TpuEff nD τ sig (Elt F) Λ₀ .tc) PUnit :=
  cc0__ffn_body (grid0.coords t) tbM (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))

theorem defs₀_row (t : Fin (cfgM m hO).N) :
    defs₀ (F := F) .tc (cfgM m hO).body ((cfgM m hO).bodyArgs t ((cfgM m hO).slots t)) = bodyAt m hO t := by
  unfold defs₀; rw [Defs.onTc_tc]

/-- What the body is called with at a point, its blocks named, -/
def bodyPre (c : Dev nD) (t : Fin (cfgM m hO).N) (Y : Vec F S6144x1024 .f32) : sProp 𝕄 :=
  iprop((Pipeline.ΦA spec0 c ∗ Pipeline.ΦT pre0 (tbl m) c) ∗ (rdat m hO c).owesAt () t.castSucc
    ∗ owns (c : Thread nD τ) (spec0_0.stage ((cfgM m hO).slots t 0)) fullShare (iblk m hO c 0 t)
    ∗ owns (c : Thread nD τ) (spec0_1.stage ((cfgM m hO).slots t 1)) fullShare (iblk m hO c 1 t)
    ∗ owns (c : Thread nD τ) (spec0_2.stage ((cfgM m hO).slots t 2)) fullShare (iblk m hO c 2 t)
    ∗ owns (c : Thread nD τ) (spec0_3.stage ((cfgM m hO).slots t 3)) fullShare (iblk m hO c 3 t)
    ∗ owns (c : Thread nD τ) (spec0_4.stage ((cfgM m hO).slots t 4)) fullShare (iblk m hO c 4 t)
    ∗ owns (c : Thread nD τ) (spec0_5.stage ((cfgM m hO).slots t 5)) fullShare Y)

/-- and what it returns. -/
def bodyPost (c : Dev nD) (t : Fin (cfgM m hO).N) (Y : Vec F S6144x1024 .f32) : sProp 𝕄 :=
  iprop((Pipeline.ΦA spec0 c ∗ Pipeline.ΦT pre0 (tbl m) c) ∗ (rdat m hO c).owesAt () t.succ
    ∗ (∃ X, ⌜X = iblk m hO c 0 t⌝ ∗ owns (c : Thread nD τ) (spec0_0.stage ((cfgM m hO).slots t 0)) fullShare X)
    ∗ (∃ X, ⌜X = iblk m hO c 1 t⌝ ∗ owns (c : Thread nD τ) (spec0_1.stage ((cfgM m hO).slots t 1)) fullShare X)
    ∗ (∃ X, ⌜X = iblk m hO c 2 t⌝ ∗ owns (c : Thread nD τ) (spec0_2.stage ((cfgM m hO).slots t 2)) fullShare X)
    ∗ (∃ X, ⌜X = iblk m hO c 3 t⌝ ∗ owns (c : Thread nD τ) (spec0_3.stage ((cfgM m hO).slots t 3)) fullShare X)
    ∗ (∃ X, ⌜X = iblk m hO c 4 t⌝ ∗ owns (c : Thread nD τ) (spec0_4.stage ((cfgM m hO).slots t 4)) fullShare X)
    ∗ (∃ X, ⌜X = stepAt m hO c t Y⌝ ∗ owns (c : Thread nD τ) (spec0_5.stage ((cfgM m hO).slots t 5)) fullShare X))

theorem sound_body (c : Dev nD) (t : Fin (cfgM m hO).N) (Y : Vec F S6144x1024 .f32) :
    bodyPre m hO c t Y ⊢ wp frame (wpE (defs₀ (F := F)) Variants.none c none) Set.univ (bodyAt m hO t) (fun _ => bodyPost m hO c t Y) := by
  unfold bodyPre bodyPost bodyAt
  rw [PhiT_eq, show (rdat m hO c).owesAt () t.succ = (rdat m hO c).owesAt () t.castSucc from rfl]
  iintro ⟨⟨HΦ, Ht⟩, Ho, H0, H1, H2, H3, H4, H5⟩
  iapply (sound_kernel c Set.univ (grid0.coords t) _ _ _ _ _ _ _ _ _ _ _ _ (iblk m hO c 0 t) (iblk m hO c 1 t) (iblk m hO c 2 t)
    (iblk m hO c 3 t) (iblk m hO c 4 t) Y (tabOf m c) _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  iintro ⟨Ht, H0, H1, H2, H3, H4, H5⟩
  isplitl [HΦ Ht]
  · isplitl [HΦ]; · iexact HΦ
    iexact Ht
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr
  swap; · iexact H5
  ipureintro; rfl

theorem body_obligation (c : Dev nD) : (rdat m hO c).BodyObligation (defs₀ (F := F)) Variants.none () Set.univ := fun t Y hY => by
  have e0 := finds0 m hO c t _ (hY 0)
  have e1 := finds1 m hO c t _ (hY 1)
  have e2 := finds2 m hO c t _ (hY 2)
  have e3 := finds3 m hO c t _ (hY 3)
  have e4 := finds4 m hO c t _ (hY 4)
  rw [bigSep_W0, bigSep_W0, defs₀_row, e0, e1, e2, e3, e4]
  exact triple_restated (sound_body m hO c t (Y 5)) rfl .rfl fun _ => .rfl

theorem hmain : Pipeline.HMainP (Ix := Unit) (Name := ℕ) (U := UR sig nD τ) (Lvl := ℕ) (pcfgs (F := F)) 0 defs₀ Variants.none m
    (main (F := F)) (V m) :=
  Pipeline.hmainP_region pcfgs 0 defs₀ Variants.none m main fun c => (main_chain c).trans rfl

/-- The run: every array as the pipeline may leave it, and every semaphore at zero. -/
theorem run_main (hO : Ok m) : θ_run defs (onTc (τ := τ) (main (F := F))) (s₀ m ρ)
    (fun r => RDat.FramePost (cfgM m hO) (rdat m hO) (V m) r ∧ r.2.sem = fun _ => 0) :=
  Pipeline.RDat.θ_run_frameP_track_shared (pcfgs (F := F)) (fun _ => adm m hO) 0 launch₀0 defs₀ Variants.none (rdat m hO) m ρ
    (main (F := F)) (body_obligation m hO) (fun _ _ _ => rfl) (fun _ _ => rfl) (V m) (hmain m) (fun _ _ => rfl) (V_pre m)
    (fun _ => .rfl) (fun c => by
      show iprop(Pipeline.ΦA spec0 c ∗ Pipeline.ΦT pre0 (tbl m) c) ⊢ Pipeline.ΦA spec0 c
      iintro ⟨H, -⟩; iexact H)
    _ (fun _ h => h)

end Cert.ExpertsIdeal.Hand
-- ==== Proof.ExpertsRun.lean ====
/- The experts' products: the run, and what it leaves. -/
module

public import proofs.«01_k».proof.Proof.Experts
public import proofs.«01_k».proof.Proof.Gen.Pre_in_experts
public import Idealize.ShloMosaic.Lib.ValueIdxCore
public import Idealize.ShloMosaic.Lib.WordArith
public import Idealize.ShloMosaic.Lib.Pipeline.Value

@[expose] public section

set_option maxRecDepth 16384

noncomputable section

namespace Cert.ExpertsIdeal.Hand

open Cert.ExpertsIdeal Cert.ExpertsIdeal.Gen
open Idealize.ShloMosaic Idealize.ShloMosaic.TcCoe
open Idealize.SL Idealize.SL.RA Idealize.SL.BI
open Idealize.SL.BI.BIBase Idealize.SL.Sem
open Idealize.ShloMosaic.Pipeline (RDat Cfg Window)
open Idealize.ShloMosaic.ValueIdx (ix2)

variable {F : FTy → Type} [FloatOps F]

/-- The word of block `b` in the table. -/
def wordOf (p : IVec S1x32 32) (b : Fin 24) : BitVec 32 := p (ix2 (0 : Fin 1) (⟨b.val, by omega⟩ : Fin 32))

/-- The expert a word names: none below zero, where the first expert's weights are fetched and not used. -/
def expertOf (w : BitVec 32) : ℕ := (Scalar.maxsi w 0#32).toNat

theorem expertOf_eq (w : BitVec 32) : expertOf w = w.toInt.toNat := by
  have e := BitVec.toInt_eq_toNat_cond w
  have hx := w.isLt
  have h0 : (0#32 : BitVec 32).toInt = 0 := by decide
  unfold expertOf Scalar.maxsi IntOp.maxsi
  by_cases h : (0#32 : BitVec 32).slt w = true
  · rw [if_pos h]
    rw [BitVec.slt_iff_toInt_lt, h0] at h
    omega
  · rw [if_neg h]
    rw [BitVec.slt_iff_toInt_lt, h0] at h
    show 0 = w.toInt.toNat
    omega

theorem expertOf_lt (w : BitVec 32) (h : w.toInt < 8) : expertOf w < 8 := by rw [expertOf_eq]; omega

theorem off1_eq (i : grid0.Coords) : k0_off1 i = ![0, (i 1).val] := by
  have h : ∀ a : Fin 24, (Scalar.indexCast (BitVec.ofNat 32 a.val) : Index).toNat = a.val := by decide
  exact congrArg (fun n => ![0, n]) (h (i 1))

theorem emb_off1 (i : grid0.Coords) (x : (Rect.unit (s := S1x32) (k0_off1 i) S1x1.size (k0_off1_inb i)).shape.Idx) :
    (Rect.unit (s := S1x32) (k0_off1 i) S1x1.size (k0_off1_inb i)).emb x
      = ix2 (0 : Fin 1) (⟨(i 1).val, lt_of_lt_of_le (i 1).isLt (by decide)⟩ : Fin 32) := by
  funext a
  refine Fin.ext ?_
  have e : ((Rect.unit (s := S1x32) (k0_off1 i) S1x1.size (k0_off1_inb i)).emb x a).val = k0_off1 i a + 1 * (x a).val := rfl
  have h0 : ∀ a : Fin 2, S1x1.size a = 1 := by decide
  have hx : (x a).val < 1 := lt_of_lt_of_eq (x a).isLt (h0 a)
  rw [e, congrFun (off1_eq i) a]
  match a with
  | 0 => show 0 + 1 * (x 0).val = 0; omega
  | 1 => show (i 1).val + 1 * (x 1).val = (i 1).val; omega

theorem word_eq (c : Dev nD) (f : Buf (Elt F) (tbM.view.loc (c : Thread nD τ))) (i : grid0.Coords) : word c f i = wordOf f (i 1) :=
  congrArg f (emb_off1 i _)

theorem transform1_eq (pf : pre0.Contents (Elt F)) (i : grid0.Coords) :
    cc0_transform_1 k0_off1_inb numel1_S1x1 pf i = ![expertOf (wordOf (pf 0) (i 1)), (i 0).val, 0] := by
  have h : ∀ a : Fin 7, (BitVec.ofNat 32 a.val).toNat = a.val := by decide
  have e : pf.at 0 (Rect.unit (s := S1x32) (k0_off1 i) S1x1.size (k0_off1_inb i)) numel1_S1x1 = wordOf (pf 0) (i 1) := congrArg (pf 0) (emb_off1 i _)
  show ![(Scalar.maxsi (pf.at 0 (Rect.unit (s := S1x32) (k0_off1 i) S1x1.size (k0_off1_inb i)) numel1_S1x1) 0#32).toNat, (BitVec.ofNat 32 (i 0).val).toNat, 0] = _
  rw [e, show (BitVec.ofNat 32 (i 0).val).toNat = (i 0).val from h (i 0)]
  rfl

theorem transform2_eq (pf : pre0.Contents (Elt F)) (i : grid0.Coords) :
    cc0_transform_2 k0_off1_inb numel1_S1x1 pf i = ![expertOf (wordOf (pf 0) (i 1)), 7 + (i 0).val, 0] := by
  have h : ∀ a : Fin 7, (Scalar.addi 7#32 (BitVec.ofNat 32 a.val)).toNat = 7 + a.val := by decide
  have e : pf.at 0 (Rect.unit (s := S1x32) (k0_off1 i) S1x1.size (k0_off1_inb i)) numel1_S1x1 = wordOf (pf 0) (i 1) := congrArg (pf 0) (emb_off1 i _)
  show ![(Scalar.maxsi (pf.at 0 (Rect.unit (s := S1x32) (k0_off1 i) S1x1.size (k0_off1_inb i)) numel1_S1x1) 0#32).toNat, (Scalar.addi 7#32 (BitVec.ofNat 32 (i 0).val)).toNat, 0] = _
  rw [e, show (Scalar.addi 7#32 (BitVec.ofNat 32 (i 0).val)).toNat = 7 + (i 0).val from h (i 0)]
  rfl

theorem transform3_eq (pf : pre0.Contents (Elt F)) (i : grid0.Coords) :
    cc0_transform_3 k0_off1_inb numel1_S1x1 pf i = ![expertOf (wordOf (pf 0) (i 1)), 0, (i 0).val] := by
  have h : ∀ a : Fin 7, (BitVec.ofNat 32 a.val).toNat = a.val := by decide
  have e : pf.at 0 (Rect.unit (s := S1x32) (k0_off1 i) S1x1.size (k0_off1_inb i)) numel1_S1x1 = wordOf (pf 0) (i 1) := congrArg (pf 0) (emb_off1 i _)
  show ![(Scalar.maxsi (pf.at 0 (Rect.unit (s := S1x32) (k0_off1 i) S1x1.size (k0_off1_inb i)) numel1_S1x1) 0#32).toNat, 0, (BitVec.ofNat 32 (i 0).val).toNat] = _
  rw [e, show (BitVec.ofNat 32 (i 0).val).toNat = (i 0).val from h (i 0)]
  rfl

theorem ok_of (pf : pre0.Contents (Elt F)) (h : ∀ b : Fin 24, (wordOf (pf 0) b).toInt < 8) : ok0 pf := by
  have hx : ∀ i : grid0.Coords, expertOf (wordOf (pf 0) (i 1)) < 8 := fun i => expertOf_lt _ (h (i 1))
  have h0 : ∀ i : grid0.Coords, (i 0).val < 7 := fun i => (i 0).isLt
  refine ⟨fun i => ⟨fun a => ?_, .inl rfl⟩, fun i => ⟨fun a => ?_, .inl rfl⟩, fun i => ⟨fun a => ?_, .inl rfl⟩⟩
  · rw [transform1_eq]
    have := hx i; have := h0 i
    match a with
    | 0 => show (expertOf (wordOf (pf 0) (i 1)) + 1) * 1 ≤ 8; omega
    | 1 => show ((i 0).val + 1) * 512 ≤ 7168; omega
    | 2 => show (0 + 1) * 1024 ≤ 1024; omega
  · rw [transform2_eq]
    have := hx i; have := h0 i
    match a with
    | 0 => show (expertOf (wordOf (pf 0) (i 1)) + 1) * 1 ≤ 8; omega
    | 1 => show (7 + (i 0).val + 1) * 512 ≤ 7168; omega
    | 2 => show (0 + 1) * 1024 ≤ 1024; omega
  · rw [transform3_eq]
    have := hx i; have := h0 i
    match a with
    | 0 => show (expertOf (wordOf (pf 0) (i 1)) + 1) * 1 ≤ 8; omega
    | 1 => show (0 + 1) * 1024 ≤ 1024; omega
    | 2 => show ((i 0).val + 1) * 512 ≤ 3584; omega

/-- The precondition, read. -/
theorem words_of_pre (x : IVec S6144x512 32) (w : FVec F S8x7168x1024 .f32) (v : FVec F S8x1024x3584 .f32) (s : FVec F S6144x1 .f32)
    (p : IVec S1x32 32) (h : Cert.Pre_in_experts.fn (F := F) x w v s p = fun _ => 1#1) (b : Fin 24) : (wordOf p b).toInt < 8 := by
  have e := congrFun h (ix2 (0 : Fin 1) b)
  have e1 := IntOp.cmpi_slt.mp (show IntOp.cmpi .slt (extractStridedSlice Cert.Pre_in_experts.S1x24 ![0, 0] p
    Cert.Pre_in_experts.Facts.slices_S1x32_S1x24_0_0 (ix2 (0 : Fin 1) b)) 8#32 = 1#1 from e)
  rw [extractStridedSlice_apply _ _ _ _ (ix2 (0 : Fin 1) (⟨b.val, by omega⟩ : Fin 32)) fun a => match a with
    | 0 => rfl
    | 1 => (Nat.zero_add _).symm] at e1
  exact lt_of_lt_of_eq e1 (by decide)

variable (m : (ℓ : Loc nD τ sig) → Buf (Elt F) ℓ) (ρ : Dev nD → PrngReg)

theorem ok_of_words (h : ∀ b : Fin 24, (wordOf (m (((0 : Dev nD) : Thread nD τ).loc main_arg4)) b).toInt < 8) : Ok m := ok_of (tbl m) h

variable (hO : Ok m)

/-- An input's array ends as it began. -/
theorem mem_in (c : Dev nD) (r : PUnit × MemSt nD τ sig (Elt F)) (h : RDat.FramePost (cfgM m hO) (rdat m hO) (V m) r)
    (w : Fin (cfgM m hO).W) (hw : ((cfgM m hO).win w).isOut = false) :
    r.2.mem (((cfgM m hO).spec w).arr.view.loc (c.tc : Thread nD τ)) = (rdat m hO c).A w := by
  have e := (h c).1 w
  rw [(rdat m hO c).ArrAt_in w hw] at e
  exact e

theorem arg4_rest : main_arg4 ∈ Pipeline.restRefs sig (cfgM m hO).spec :=
  show main_arg4 ∈ Pipeline.restRefs sig spec0 from by decide

/-- The argument arrays end unchanged, and the output's array as the pipeline may leave it. -/
def Ends (M : MemSt nD τ sig (Elt F)) (c : Dev nD) : Prop :=
  (rdat m hO c).ArrAt 5 (cfgM m hO).N (M.mem ((c.tc : Thread nD τ).loc main_v0))
    ∧ M.mem ((c.tc : Thread nD τ).loc main_arg0) = m ((c.tc : Thread nD τ).loc main_arg0)
    ∧ M.mem ((c.tc : Thread nD τ).loc main_arg1) = m ((c.tc : Thread nD τ).loc main_arg1)
    ∧ M.mem ((c.tc : Thread nD τ).loc main_arg2) = m ((c.tc : Thread nD τ).loc main_arg2)
    ∧ M.mem ((c.tc : Thread nD τ).loc main_arg3) = m ((c.tc : Thread nD τ).loc main_arg3)
    ∧ M.mem ((c.tc : Thread nD τ).loc main_arg4) = m ((c.tc : Thread nD τ).loc main_arg4)

theorem ends_of (r : PUnit × MemSt nD τ sig (Elt F)) (h : RDat.FramePost (cfgM m hO) (rdat m hO) (V m) r) (c : Dev nD) :
    Ends m hO r.2 c := by
  have hc := h c
  have h0 : r.2.mem ((c.tc : Thread nD τ).loc main_arg0) = m ((c.tc : Thread nD τ).loc main_arg0) := mem_in m hO c r h 0 rfl
  have h1 : r.2.mem ((c.tc : Thread nD τ).loc main_arg1) = m ((c.tc : Thread nD τ).loc main_arg1) := mem_in m hO c r h 1 rfl
  have h3 : r.2.mem ((c.tc : Thread nD τ).loc main_arg2) = m ((c.tc : Thread nD τ).loc main_arg2) := mem_in m hO c r h 3 rfl
  have h4 : r.2.mem ((c.tc : Thread nD τ).loc main_arg3) = m ((c.tc : Thread nD τ).loc main_arg3) := mem_in m hO c r h 4 rfl
  have h5 := hc.1 5
  have h6 := hc.2 main_arg4 (arg4_rest m hO)
  unfold Ends
  exact ⟨h5, h0, h1, h3, h4, h6⟩

theorem run_frame : θ_run defs (onTc (τ := τ) (main (F := F))) (s₀ m ρ) (fun r => (∀ c : Dev nD, Ends m hO r.2 c) ∧ r.2.sem = fun _ => 0) :=
  (θ_run defs (onTc (τ := τ) (main (F := F))) (s₀ m ρ)).mono (fun r h => ⟨ends_of m hO r h.1, h.2⟩) (run_main m ρ hO)

end Cert.ExpertsIdeal.Hand
-- ==== Proof.ExpertsSum.lean ====
/- The experts' products: the output block by block, chunk by chunk. -/
module

public import proofs.«01_k».proof.Proof.ExpertsRun

@[expose] public section

set_option maxRecDepth 16384

noncomputable section

namespace Cert.ExpertsIdeal.Hand

open Cert.ExpertsIdeal Cert.ExpertsIdeal.Gen
open Idealize.ShloMosaic Idealize.ShloMosaic.TcCoe
open Idealize.SL.Sem
open Idealize.ShloMosaic.Pipeline (RDat Cfg Window)
open Idealize.ShloMosaic.ValueIdx (ix2)

variable {F : FTy → Type} [FloatOps F]

theorem coords0 (t : Fin grid0.N) : (grid0.coords t 0).val = t.val / 24 := by
  have h : ∀ t : Fin 168, t.val / 24 % 7 = t.val / 24 := by decide
  exact h t

theorem coords1 (t : Fin grid0.N) : (grid0.coords t 1).val = t.val % 24 := by
  have h : ∀ t : Fin 168, t.val / 1 % 24 = t.val % 24 := by decide
  exact h t

/-- Chunk `k` of block `b`, as a point. -/
def pt (k : Fin 7) (b : Fin 24) : Fin grid0.N := ⟨24 * k.val + b.val, by have := N_0; omega⟩

theorem cond1_iff (w : BitVec 32) : k0_cond1 w = 1#1 ↔ 0 ≤ w.toInt := by
  have h : ∀ v : BitVec 1, (Scalar.cmpi .ne (Scalar.extui v : BitVec 32) 0#32 = 1#1) ↔ v = 1#1 := by decide
  refine (h (Scalar.cmpi .sge w 0#32)).trans ?_
  exact IntOp.cmpi_sge

theorem cond2_iff (i : grid0.Coords) : k0_cond2 i = 1#1 ↔ (i 0).val = 0 := by
  have h : ∀ a : Fin 7, (Scalar.cmpi .ne (Scalar.extui (Scalar.cmpi .eq (BitVec.ofNat 32 a.val) 0#32) : BitVec 32) 0#32 = 1#1) ↔ a.val = 0 := by
    decide
  exact h (i 0)

theorem off2_eq (i : grid0.Coords) : k0_off2 i = ![256 * (i 1).val, 0] := by
  have h : ∀ a : Fin 24, (Scalar.indexCast (Scalar.muli (BitVec.ofNat 32 a.val) 256#32) : Index).toNat = 256 * a.val := by decide
  exact congrArg (fun n => ![n, 0]) (h (i 1))

theorem off3_eq (i : grid0.Coords) : k0_off3 i = ![256 * (i 1).val, 0] := off2_eq i

theorem rows_inb (b : Fin 24) : ∀ a : Fin 2, (![256 * b.val, 0] : Fin 2 → ℕ) a + S256x1024.size a ≤ S6144x1024.size a := fun a => match a with
  | 0 => show 256 * b.val + 256 ≤ 6144 by omega
  | 1 => show 0 + 1024 ≤ 1024 by omega

/-- A block's rows. -/
def rows (y : Vec F S6144x1024 .f32) (b : Fin 24) : FVec F S256x1024 .f32 :=
  VecWindow.window y ![256 * b.val, 0] S256x1024.size (rows_inb b)

theorem window_congr (y : Vec F S6144x1024 .f32) {o o' : Fin 2 → ℕ} (h : o = o') (i : ∀ a, o a + S256x1024.size a ≤ S6144x1024.size a)
    (i' : ∀ a, o' a + S256x1024.size a ≤ S6144x1024.size a) :
    (VecWindow.window y o S256x1024.size i : FVec F S256x1024 .f32) = VecWindow.window y o' S256x1024.size i' := by
  subst h; rfl

theorem rows_put_same (y : Vec F S6144x1024 .f32) (b : Fin 24) (w : FVec F S256x1024 .f32) :
    rows (VecWindow.put y ![256 * b.val, 0] S256x1024.size w) b = w :=
  VecWindow.window_put_same (s := S6144x1024) y _ S256x1024.size (rows_inb b) w

theorem rows_put_ne (y : Vec F S6144x1024 .f32) (b b' : Fin 24) (h : b ≠ b') (w : FVec F S256x1024 .f32) :
    rows (VecWindow.put y ![256 * b.val, 0] S256x1024.size w) b' = rows y b' :=
  VecWindow.window_put_of_disjoint (s := S6144x1024) y _ S256x1024.size _ S256x1024.size (rows_inb b') w 0
    (show 256 * b'.val + 256 ≤ 256 * b.val ∨ 256 * b.val + 256 ≤ 256 * b'.val by
      have : b.val ≠ b'.val := fun e => h (Fin.ext e)
      omega)

theorem step_dead (w : BitVec 32) (i : grid0.Coords) (x3 : Vec F S256x512 .i32) (x4 x5 : Vec F S1x512x1024 .f32) (x6 : Vec F S1x1024x512 .f32)
    (x7 : Vec F S256x1 .f32) (y : Vec F S6144x1024 .f32) (h : ¬ 0 ≤ w.toInt) : step w i x3 x4 x5 x6 x7 y = y := by
  unfold step; rw [if_neg fun e => h ((cond1_iff w).mp e)]

theorem step_first (w : BitVec 32) (i : grid0.Coords) (x3 : Vec F S256x512 .i32) (x4 x5 : Vec F S1x512x1024 .f32) (x6 : Vec F S1x1024x512 .f32)
    (x7 : Vec F S256x1 .f32) (y : Vec F S6144x1024 .f32) (h : 0 ≤ w.toInt) (h0 : (i 0).val = 0) :
    step w i x3 x4 x5 x6 x7 y = VecWindow.put y ![256 * (i 1).val, 0] S256x1024.size (prod x3 x4 x5 x6 x7) := by
  unfold step; rw [if_pos ((cond1_iff w).mpr h), if_pos ((cond2_iff i).mpr h0), off2_eq]

theorem step_next (w : BitVec 32) (i : grid0.Coords) (x3 : Vec F S256x512 .i32) (x4 x5 : Vec F S1x512x1024 .f32) (x6 : Vec F S1x1024x512 .f32)
    (x7 : Vec F S256x1 .f32) (y : Vec F S6144x1024 .f32) (h : 0 ≤ w.toInt) (h0 : (i 0).val ≠ 0) :
    step w i x3 x4 x5 x6 x7 y = VecWindow.put y ![256 * (i 1).val, 0] S256x1024.size (k0_pay1 (prod x3 x4 x5 x6 x7) (rows y (i 1))) := by
  have h2 : ¬ k0_cond2 i = 1#1 := fun e => h0 ((cond2_iff i).mp e)
  have h3 : k0_cond3 i = 1#1 := (cond3_iff i).mpr h2
  unfold step; rw [if_pos ((cond1_iff w).mpr h), if_neg h2, dif_pos h3]
  rw [show (VecWindow.window y (k0_off3 i) S256x1024.size (k0_off3_inb i h3) : FVec F S256x1024 .f32) = rows y (i 1)
    from window_congr y (off3_eq i) _ _, off3_eq]

variable (m : (ℓ : Loc nD τ sig) → Buf (Elt F) ℓ) (hO : Ok m)

/-- The inputs' blocks at a point. -/
def blkX (c : Dev nD) (t : Fin grid0.N) : Vec F S256x512 .i32 := iblk m hO c 0 t
def blkG (c : Dev nD) (t : Fin grid0.N) : Vec F S1x512x1024 .f32 := iblk m hO c 1 t
def blkU (c : Dev nD) (t : Fin grid0.N) : Vec F S1x512x1024 .f32 := iblk m hO c 2 t
def blkD (c : Dev nD) (t : Fin grid0.N) : Vec F S1x1024x512 .f32 := iblk m hO c 3 t
def blkS (c : Dev nD) (t : Fin grid0.N) : Vec F S256x1 .f32 := iblk m hO c 4 t

theorem stepAt_eq (c : Dev nD) (t : Fin grid0.N) (y : Vec F S6144x1024 .f32) : stepAt m hO c t y
    = step (word c (tabOf m c) (grid0.coords t)) (grid0.coords t) (blkX m hO c t) (blkG m hO c t) (blkU m hO c t) (blkD m hO c t) (blkS m hO c t) y := rfl

/-- A block's products over chunk `k`, -/
def part (c : Dev nD) (k : Fin 7) (b : Fin 24) : FVec F S256x1024 .f32 :=
  prod (blkX m hO c (pt k b)) (blkG m hO c (pt k b)) (blkU m hO c (pt k b)) (blkD m hO c (pt k b)) (blkS m hO c (pt k b))

/-- and over the chunks through `k`. -/
def acc (c : Dev nD) (b : Fin 24) : (k : ℕ) → k < 7 → FVec F S256x1024 .f32
  | 0, h => part m hO c ⟨0, h⟩ b
  | k + 1, h => k0_pay1 (part m hO c ⟨k + 1, h⟩ b) (acc c b k (Nat.lt_of_succ_lt h))

/-- The block has an expert. -/
def Live (c : Dev nD) (b : Fin 24) : Prop := 0 ≤ (wordOf (tabOf m c) b).toInt

/-- Before a point: the blocks before it hold the sums through this chunk, the others through the chunk before. -/
def Before (c : Dev nD) (t : Fin grid0.N) (y : Vec F S6144x1024 .f32) : Prop :=
  ∀ b : Fin 24, Live m c b → ∀ (k : ℕ) (hk : k < 7), (24 * k + b.val < t.val ∧ t.val ≤ 24 * (k + 1) + b.val) → rows y b = acc m hO c b k hk

def After (c : Dev nD) (t : Fin grid0.N) (y : Vec F S6144x1024 .f32) : Prop :=
  ∀ b : Fin 24, Live m c b → ∀ (k : ℕ) (hk : k < 7), (24 * k + b.val ≤ t.val ∧ t.val < 24 * (k + 1) + b.val) → rows y b = acc m hO c b k hk

theorem pt_of (t : Fin grid0.N) (k : ℕ) (hk : k < 7) (b : Fin 24) (h : 24 * k + b.val = t.val) : pt ⟨k, hk⟩ b = t := Fin.ext h

theorem after_of_before (c : Dev nD) (t : Fin grid0.N) (y : Vec F S6144x1024 .f32) (h : Before m hO c t y) :
    After m hO c t (stepAt m hO c t y) := by
  intro b hb k hk ⟨hl, hu⟩
  have hN := N_0
  have e0 := coords0 t
  have e1 := coords1 t
  rw [stepAt_eq]
  have hw : word c (tabOf m c) (grid0.coords t) = wordOf (tabOf m c) (grid0.coords t 1) := word_eq c _ _
  by_cases hbt : 24 * k + b.val = t.val
  · obtain rfl := pt_of t k hk b hbt
    have eb : grid0.coords (pt ⟨k, hk⟩ b) 1 = b := Fin.ext (by rw [e1]; show (24 * k + b.val) % 24 = b.val; omega)
    have hlive : 0 ≤ (word c (tabOf m c) (grid0.coords (pt ⟨k, hk⟩ b))).toInt := by rw [hw, eb]; exact hb
    match k, hk with
    | 0, hk =>
      rw [step_first _ _ _ _ _ _ _ _ hlive (by rw [e0]; show (24 * 0 + b.val) / 24 = 0; omega), eb, rows_put_same]
      rfl
    | k + 1, hk =>
      rw [step_next _ _ _ _ _ _ _ _ hlive (by rw [e0]; show (24 * (k + 1) + b.val) / 24 ≠ 0; omega), eb, rows_put_same]
      rw [h b hb k (Nat.lt_of_succ_lt hk) ⟨show 24 * k + b.val < 24 * (k + 1) + b.val by omega, le_refl _⟩]
      rfl
  · have hpre : rows y b = acc m hO c b k hk := h b hb k hk ⟨by omega, by omega⟩
    have hne : grid0.coords t 1 ≠ b := fun e => by
      have : (grid0.coords t 1).val = b.val := congrArg Fin.val e
      omega
    by_cases hlive : 0 ≤ (word c (tabOf m c) (grid0.coords t)).toInt
    · by_cases hz : (grid0.coords t 0).val = 0
      · rw [step_first _ _ _ _ _ _ _ _ hlive hz, rows_put_ne _ _ _ hne]; exact hpre
      · rw [step_next _ _ _ _ _ _ _ _ hlive hz, rows_put_ne _ _ _ hne]; exact hpre
    · rw [step_dead _ _ _ _ _ _ _ _ hlive]; exact hpre

theorem fetch5 (t : Fin (cfgM m hO).N) : ((cfgM m hO).win 5).fetch t = false := rfl

theorem index5 (t u : Fin (cfgM m hO).N) : ((cfgM m hO).win 5).index t = ((cfgM m hO).win 5).index u := rfl

theorem flush5 (t : Fin (cfgM m hO).N) (h : t.val + 1 ≠ (cfgM m hO).N) : ((cfgM m hO).win 5).flush t = false := by
  unfold Window.flush
  rw [decide_eq_false h, decide_eq_false fun ⟨h, e⟩ => e (index5 m hO _ _)]
  exact Bool.and_false _

theorem before_of_finds (c : Dev nD) : ∀ (n : ℕ) (hn : n < (cfgM m hO).N) (y : Vec F S6144x1024 .f32), (rdat m hO c).Finds 5 ⟨n, hn⟩ y →
    Before m hO c ⟨n, hn⟩ y
  | 0, hn, y, h => fun b hb k hk ⟨hl, _⟩ => absurd hl (Nat.not_lt_zero _)
  | n + 1, hn, y, h => by
    have h1 := ((rdat m hO c).finds_of_pos (fetch5 m hO ⟨n + 1, hn⟩) (Nat.succ_ne_zero n) y).mp h
    rcases h1 with h1 | ⟨z, hz, hy⟩
    · exact absurd (h1.symm.trans (flush5 m hO ⟨n, Nat.lt_of_succ_lt hn⟩ (Nat.ne_of_lt hn))) (by decide)
    · have hy' : y = stepAt m hO c ⟨n, Nat.lt_of_succ_lt hn⟩ z := hy
      have ih := after_of_before m hO c _ _ (before_of_finds c n (Nat.lt_of_succ_lt hn) z hz)
      rw [hy']
      exact fun b hb k hk ⟨hl, hu⟩ => ih b hb k hk ⟨Nat.lt_succ_iff.mp hl, Nat.lt_of_succ_le hu⟩

theorem after_of_leaves (c : Dev nD) (t : Fin (cfgM m hO).N) (y : Vec F S6144x1024 .f32) (h : (rdat m hO c).Leaves 5 t y) :
    After m hO c t y := by
  obtain ⟨z, hz, hy⟩ := h
  have hy' : y = stepAt m hO c t z := hy
  rw [hy']
  exact after_of_before m hO c t z (before_of_finds m hO c t.val t.isLt z hz)

/-- At the end every block that has an expert holds its sums over all seven chunks. -/
theorem out_eq (c : Dev nD) (G : Buf (Elt F) ((c.tc : Thread nD τ).loc main_v0)) (h : (rdat m hO c).ArrAt 5 (cfgM m hO).N G) (b : Fin 24)
    (hb : Live m c b) : rows (F := F) G b = acc m hO c b 6 (by decide) := by
  have hN : (cfgM m hO).N = 168 := N_0
  have hu : 167 < (cfgM m hO).N := by omega
  have h' : (rdat m hO c).ArrAt 5 ((⟨167, hu⟩ : Fin (cfgM m hO).N).val + 1) G := by
    have e : (⟨167, hu⟩ : Fin (cfgM m hO).N).val + 1 = (cfgM m hO).N := hN.symm
    rw [e]; exact h
  rw [(rdat m hO c).ArrAt_succ, if_pos (by unfold Window.flush; rw [decide_eq_true (show 167 + 1 = grid0.N from hN.symm)]; rfl)] at h'
  obtain ⟨G₀, X, -, hX, hG⟩ := h'
  have hA := after_of_leaves m hO c ⟨167, hu⟩ X hX b hb 6 (by decide) ⟨show 24 * 6 + b.val ≤ 167 by omega, show 167 < 24 * (6 + 1) + b.val by omega⟩
  have e : G = X := by
    rw [hG]
    funext y
    have hy : (((cfgM m hO).win 5).blk ⟨167, hu⟩).view.emb y = y := by
      refine funext fun (a : Fin 2) => Fin.ext ?_
      match a with
      | 0 => exact (Nat.zero_mul 6144 ▸ (Nat.zero_add _).trans (Nat.one_mul _) : 0 * 6144 + 1 * (y (0 : Fin 2)).val = (y (0 : Fin 2)).val)
      | 1 => exact (Nat.zero_mul 1024 ▸ (Nat.zero_add _).trans (Nat.one_mul _) : 0 * 1024 + 1 * (y (1 : Fin 2)).val = (y (1 : Fin 2)).val)
    exact (congrArg _ hy.symm).trans (View.write_emb_of_mem _ _ (Finset.mem_univ _))
  rw [e]; exact hA

end Cert.ExpertsIdeal.Hand
-- ==== Proof.ExpertsTerm.lean ====
/- The experts' products as plain sums: what both the kernel's chunks and the reference come to, and the packed pairs of half words. -/
module

public import Idealize.ShloMosaic.Lib.ValueIdxCore
public import Idealize.ShloMosaic.Lib.IdealHost
public import Idealize.ShloMosaic.Lib.MatmulPlain
public import Idealize.ShloMosaic.Lib.Pipeline.Value
public import Idealize.ShloMosaic.Lib.Pointwise
public import Idealize.ShloMosaic.Lib.Affine

@[expose] public section

noncomputable section

open scoped BigOperators

namespace Cert.Proof.Experts

open Idealize.ShloMosaic

abbrev Packed : Shape := ⟨2, ![6144, 512]⟩
abbrev GateUp : Shape := ⟨3, ![8, 7168, 1024]⟩
abbrev Down : Shape := ⟨3, ![8, 1024, 3584]⟩
abbrev Scale : Shape := ⟨2, ![6144, 1]⟩
abbrev Words : Shape := ⟨2, ![1, 32]⟩

/-- A half word followed by sixteen zero bits is the same number at the wider format. -/
theorem ieee_widen (h : BitVec 16) : Ideal.ieee 8 23 (h ++ 0#16) = Ideal.ieee 8 7 h := by
  have hh := h.isLt
  have e0 : ((h ++ 0#16 : BitVec 32)).toNat = h.toNat * 65536 := by
    rw [BitVec.toNat_append, Nat.shiftLeft_eq]; simp
  have e1 : (h ++ 0#16 : BitVec 32).extractLsb' (8 + 23) 1 = h.extractLsb' (8 + 7) 1 := by
    apply BitVec.eq_of_toNat_eq
    rw [BitVec.extractLsb'_toNat, BitVec.extractLsb'_toNat, e0, Nat.shiftRight_eq_div_pow, Nat.shiftRight_eq_div_pow]
    omega
  have e2 : (h ++ 0#16 : BitVec 32).extractLsb' 23 8 = h.extractLsb' 7 8 := by
    apply BitVec.eq_of_toNat_eq
    rw [BitVec.extractLsb'_toNat, BitVec.extractLsb'_toNat, e0, Nat.shiftRight_eq_div_pow, Nat.shiftRight_eq_div_pow]
    omega
  have e3 : ((h ++ 0#16 : BitVec 32).extractLsb' 0 23).toNat = (h.extractLsb' 0 7).toNat * 65536 := by
    rw [BitVec.extractLsb'_toNat, BitVec.extractLsb'_toNat, e0, Nat.shiftRight_eq_div_pow, Nat.shiftRight_eq_div_pow]
    omega
  have e4 : (h.extractLsb' 0 7).toNat * 65536 = 0 ↔ (h.extractLsb' 0 7).toNat = 0 := by omega
  unfold Ideal.ieee
  dsimp only
  rw [e1, e2, e3]
  refine if_congr Iff.rfl (if_congr e4 rfl rfl) (if_congr Iff.rfl (congrArg _ ?_) (congrArg _ ?_))
  · have p : (2 : ℝ) ^ ((1 : ℤ) - (2 ^ (8 - 1) - 1) - ((7 : ℕ) : ℤ)) = 65536 * (2 : ℝ) ^ ((1 : ℤ) - (2 ^ (8 - 1) - 1) - ((23 : ℕ) : ℤ)) := by
      norm_num [zpow_neg]
    rw [p]; push_cast; ring
  · generalize ((BitVec.extractLsb' 7 8 h).toNat : ℤ) = x
    have p : (2 : ℝ) ^ (x - (2 ^ (8 - 1) - 1) - ((7 : ℕ) : ℤ)) = 65536 * (2 : ℝ) ^ (x - (2 ^ (8 - 1) - 1) - ((23 : ℕ) : ℤ)) := by
      rw [show (x - (2 ^ (8 - 1) - 1) - ((7 : ℕ) : ℤ)) = (x - (2 ^ (8 - 1) - 1) - ((23 : ℕ) : ℤ)) + 16 by push_cast; ring,
        zpow_add₀ (by norm_num : (2 : ℝ) ≠ 0)]
      norm_num; ring
    rw [p]; push_cast; ring

theorem lo_half (w : BitVec 32) : IntOp.shli .vector w 16#32 = w.extractLsb' 0 16 ++ 0#16 := by
  have hw := w.isLt
  have e : IntOp.shli .vector w 16#32 = w <<< 16 := rfl
  rw [e]
  apply BitVec.eq_of_toNat_eq
  rw [BitVec.toNat_append, BitVec.toNat_shiftLeft, BitVec.extractLsb'_toNat, Nat.shiftLeft_eq, Nat.shiftLeft_eq, Nat.shiftRight_eq_div_pow]
  simp
  omega

theorem hi_half (w : BitVec 32) : IntOp.andi w 4294901760#32 = w.extractLsb' 16 16 ++ 0#16 := by
  have hm : ∀ i : Fin 32, (4294901760#32 : BitVec 32)[i.val] = decide (16 ≤ i.val) := by decide
  have e : IntOp.andi w 4294901760#32 = w &&& 4294901760#32 := rfl
  rw [e]
  apply BitVec.eq_of_getElem_eq
  intro i hi
  rw [BitVec.getElem_and, hm ⟨i, hi⟩, BitVec.getElem_append]
  by_cases h : 16 ≤ i
  · rw [dif_neg (by omega), decide_eq_true h, Bool.and_true, BitVec.getElem_extractLsb', show 16 + (i - 16) = i by omega]
    exact (BitVec.getLsbD_eq_getElem hi).symm
  · rw [dif_pos (by omega), decide_eq_false h, Bool.and_false]
    simp

/-- Entry `h` of an unpacked row: the low halves of the words, then the high ones. -/
def unpacked (x : IVec Packed 32) (r : Fin 6144) (h : Fin 1024) : EReal :=
  if hh : h.val < 512 then Ideal.ofBits .bf16 ((x (ix2 r (⟨h.val, hh⟩ : Fin 512))).extractLsb' 0 16)
  else Ideal.ofBits .bf16 ((x (ix2 r (⟨h.val - 512, by omega⟩ : Fin 512))).extractLsb' 16 16)

/-- One gated, weighted entry. -/
def gated (g u s : EReal) : EReal := g * Ideal.div 1 (1 + Ideal.exp (-g)) * u * s

/-- A row's gated, weighted entry `f` for an expert. -/
def hidden (x : IVec Packed 32) (w : FVec Ideal GateUp .f32) (s : FVec Ideal Scale .f32) (e : Fin 8) (r : Fin 6144) (f : Fin 3584) : EReal :=
  gated (∑ h : Fin 1024, unpacked x r h * w (ix3 e (⟨f.val, by omega⟩ : Fin 7168) h))
    (∑ h : Fin 1024, unpacked x r h * w (ix3 e (⟨3584 + f.val, by omega⟩ : Fin 7168) h)) (s (ix2 r (0 : Fin 1)))

/-- A row's product with an expert's second matrix. -/
def product (x : IVec Packed 32) (w : FVec Ideal GateUp .f32) (v : FVec Ideal Down .f32) (s : FVec Ideal Scale .f32) (e : Fin 8) (r : Fin 6144)
    (j : Fin 1024) : EReal := ∑ f : Fin 3584, hidden x w s e r f * v (ix3 e j f)

/-- A sum over the hidden entries, chunk by chunk. -/
theorem sum_chunks (t : Fin 3584 → EReal) : ∑ f, t f = ∑ k : Fin 7, ∑ q : Fin 512, t ⟨512 * k.val + q.val, by omega⟩ := by
  rw [← (finProdFinEquiv (m := 7) (n := 512)).sum_comp, Fintype.sum_prod_type]
  refine Finset.sum_congr rfl fun k _ => Finset.sum_congr rfl fun q _ => congrArg t (Fin.ext ?_)
  show q.val + 512 * k.val = _
  exact Nat.add_comm _ _

end Cert.Proof.Experts
-- ==== Proof.ExpertsValue.lean ====
/- The experts' products: what the kernel's blocks come to, entry by entry. -/
module

public import proofs.«01_k».proof.Proof.ExpertsSum
public import proofs.«01_k».proof.Proof.ExpertsTerm

@[expose] public section

set_option maxRecDepth 16384

noncomputable section

open scoped BigOperators

namespace Cert.ExpertsIdeal.Hand

open Cert.ExpertsIdeal Cert.ExpertsIdeal.Gen
open Idealize.ShloMosaic Idealize.ShloMosaic.TcCoe
open Idealize.SL.Sem
open Idealize.ShloMosaic.Pipeline (RDat Cfg Window)
open Cert.Proof.Experts

variable (m : (ℓ : Loc nD τ sig) → Buf (Elt Ideal) ℓ) (hO : Ok m)

abbrev argX (c : Dev nD) : IVec Packed 32 := m ((c.tc : Thread nD τ).loc main_arg0)
abbrev argW (c : Dev nD) : FVec Ideal GateUp .f32 := m ((c.tc : Thread nD τ).loc main_arg1)
abbrev argV (c : Dev nD) : FVec Ideal Down .f32 := m ((c.tc : Thread nD τ).loc main_arg2)
abbrev argS (c : Dev nD) : FVec Ideal Scale .f32 := m ((c.tc : Thread nD τ).loc main_arg3)

theorem coords_pt0 (k : Fin 7) (b : Fin 24) : (grid0.coords (pt k b) 0).val = k.val := by
  rw [coords0]; show (24 * k.val + b.val) / 24 = k.val; omega
theorem coords_pt1 (k : Fin 7) (b : Fin 24) : (grid0.coords (pt k b) 1).val = b.val := by
  rw [coords1]; show (24 * k.val + b.val) % 24 = b.val; omega

theorem blkX_apply (c : Dev nD) (k : Fin 7) (b : Fin 24) (r : Fin 256) (j : Fin 512) :
    blkX m hO c (pt k b) (ix2 r j) = argX m c (ix2 (⟨256 * b.val + r.val, by omega⟩ : Fin 6144) j) := by
  refine congrArg (argX m c) (funext fun (a : Fin 2) => Fin.ext ?_)
  have h : ∀ a : Fin 24, (BitVec.ofNat 32 a.val).toNat = a.val := by decide
  match a with
  | 0 =>
    have e : (BitVec.ofNat 32 (grid0.coords (pt k b) 1).val).toNat = b.val := (h (grid0.coords (pt k b) 1)).trans (coords_pt1 k b)
    exact (show (BitVec.ofNat 32 (grid0.coords (pt k b) 1).val).toNat * 256 + 1 * r.val = 256 * b.val + r.val by rw [e]; omega)
  | 1 => exact (show 0 * 512 + 1 * j.val = j.val by omega)

theorem blkS_apply (c : Dev nD) (k : Fin 7) (b : Fin 24) (r : Fin 256) (j : Fin 1) :
    blkS m hO c (pt k b) (ix2 r j) = argS m c (ix2 (⟨256 * b.val + r.val, by omega⟩ : Fin 6144) j) := by
  refine congrArg (argS m c) (funext fun (a : Fin 2) => Fin.ext ?_)
  have h : ∀ a : Fin 24, (BitVec.ofNat 32 a.val).toNat = a.val := by decide
  match a with
  | 0 =>
    have e : (BitVec.ofNat 32 (grid0.coords (pt k b) 1).val).toNat = b.val := (h (grid0.coords (pt k b) 1)).trans (coords_pt1 k b)
    exact (show (BitVec.ofNat 32 (grid0.coords (pt k b) 1).val).toNat * 256 + 1 * r.val = 256 * b.val + r.val by rw [e]; omega)
  | 1 => exact (show 0 * 1 + 1 * j.val = j.val by omega)

/-- A block's expert. -/
def expert (c : Dev nD) (b : Fin 24) (h : (wordOf (tabOf m c) b).toInt < 8) : Fin 8 := ⟨expertOf (wordOf (tabOf m c) b), expertOf_lt _ h⟩

theorem tbl_eq (c : Dev nD) : tbl m 0 = tabOf m c := by
  obtain rfl : c = 0 := Subsingleton.elim _ _; rfl

theorem word_pt (c : Dev nD) (k : Fin 7) (b : Fin 24) : wordOf (tbl m 0) (grid0.coords (pt k b) 1) = wordOf (tabOf m c) b := by
  rw [tbl_eq m c]; exact congrArg (wordOf (tabOf m c)) (Fin.ext (coords_pt1 k b))

theorem blkG_apply (c : Dev nD) (k : Fin 7) (b : Fin 24) (hb : (wordOf (tabOf m c) b).toInt < 8) (u : Fin 1) (q : Fin 512) (h : Fin 1024) :
    blkG m hO c (pt k b) (ix3 u q h) = argW m c (ix3 (expert m c b hb) (⟨512 * k.val + q.val, by omega⟩ : Fin 7168) h) := by
  have hT := transform1_eq (tbl m) (grid0.coords (pt k b))
  rw [word_pt m c, coords_pt0] at hT
  refine congrArg (argW m c) (funext fun (a : Fin 3) => Fin.ext ?_)
  have e : ((((cfgM m hO).win 1).blk (pt k b)).view.emb (ix3 u q h) a).val
      = cc0_transform_1 k0_off1_inb numel1_S1x1 (tbl m) (grid0.coords (pt k b)) a * S1x512x1024.size a + 1 * (ix3 u q h a).val := rfl
  refine e.trans ?_
  rw [congrFun hT a]
  match a with
  | 0 => exact (show expertOf (wordOf (tabOf m c) b) * 1 + 1 * u.val = expertOf (wordOf (tabOf m c) b) by omega)
  | 1 => exact (show k.val * 512 + 1 * q.val = 512 * k.val + q.val by omega)
  | 2 => exact (show 0 * 1024 + 1 * h.val = h.val by omega)

theorem blkU_apply (c : Dev nD) (k : Fin 7) (b : Fin 24) (hb : (wordOf (tabOf m c) b).toInt < 8) (u : Fin 1) (q : Fin 512) (h : Fin 1024) :
    blkU m hO c (pt k b) (ix3 u q h) = argW m c (ix3 (expert m c b hb) (⟨3584 + (512 * k.val + q.val), by omega⟩ : Fin 7168) h) := by
  have hT := transform2_eq (tbl m) (grid0.coords (pt k b))
  rw [word_pt m c, coords_pt0] at hT
  refine congrArg (argW m c) (funext fun (a : Fin 3) => Fin.ext ?_)
  have e : ((((cfgM m hO).win 2).blk (pt k b)).view.emb (ix3 u q h) a).val
      = cc0_transform_2 k0_off1_inb numel1_S1x1 (tbl m) (grid0.coords (pt k b)) a * S1x512x1024.size a + 1 * (ix3 u q h a).val := rfl
  refine e.trans ?_
  rw [congrFun hT a]
  match a with
  | 0 => exact (show expertOf (wordOf (tabOf m c) b) * 1 + 1 * u.val = expertOf (wordOf (tabOf m c) b) by omega)
  | 1 => exact (show (7 + k.val) * 512 + 1 * q.val = 3584 + (512 * k.val + q.val) by omega)
  | 2 => exact (show 0 * 1024 + 1 * h.val = h.val by omega)

theorem blkD_apply (c : Dev nD) (k : Fin 7) (b : Fin 24) (hb : (wordOf (tabOf m c) b).toInt < 8) (u : Fin 1) (j : Fin 1024) (q : Fin 512) :
    blkD m hO c (pt k b) (ix3 u j q) = argV m c (ix3 (expert m c b hb) j (⟨512 * k.val + q.val, by omega⟩ : Fin 3584)) := by
  have hT := transform3_eq (tbl m) (grid0.coords (pt k b))
  rw [word_pt m c, coords_pt0] at hT
  refine congrArg (argV m c) (funext fun (a : Fin 3) => Fin.ext ?_)
  have e : ((((cfgM m hO).win 3).blk (pt k b)).view.emb (ix3 u j q) a).val
      = cc0_transform_3 k0_off1_inb numel1_S1x1 (tbl m) (grid0.coords (pt k b)) a * S1x1024x512.size a + 1 * (ix3 u j q a).val := rfl
  refine e.trans ?_
  rw [congrFun hT a]
  match a with
  | 0 => exact (show expertOf (wordOf (tabOf m c) b) * 1 + 1 * u.val = expertOf (wordOf (tabOf m c) b) by omega)
  | 1 => exact (show 0 * 1024 + 1 * j.val = j.val by omega)
  | 2 => exact (show k.val * 512 + 1 * q.val = 512 * k.val + q.val by omega)

/-! The payload, entry by entry. -/

theorem ix2_eq {n0 n1 : ℕ} (a : Fin n0) (b : Fin n1) : ValueIdx.ix2 a b = ix2 a b := funext fun d => match d with
  | ⟨0, _⟩ => rfl
  | ⟨1, _⟩ => rfl

/-- A block's unpacked rows. -/
def lanes (x3 : IVec S256x512 32) : FVec Ideal S256x1024 .bf16 :=
  truncf .bf16 (concatenate S256x1024 1 [⟨S256x512, bitcastToFloat .f32 (shli x3 (broadcast S256x512 16#32))⟩,
    ⟨S256x512, bitcastToFloat .f32 (andi x3 (broadcast S256x512 4294901760#32))⟩] concatenates_S256x512_S256x512_S256x1024_d1) bitsLt_bf16_f32

theorem lanes_apply (x3 : IVec S256x512 32) (x : IVec Packed 32) (r : Fin 256) (R : Fin 6144) (hx : ∀ j, x3 (ix2 r j) = x (ix2 R j))
    (h : Fin 1024) : lanes x3 (ix2 r h) = unpacked x R h := by
  unfold unpacked lanes
  rw [show ∀ v : FVec Ideal S256x1024 .f32, truncf .bf16 v bitsLt_bf16_f32 (ix2 r h) = v (ix2 r h) from fun _ => rfl]
  by_cases hh : h.val < 512
  · rw [dif_pos hh]
    refine (concatenate_pair_apply_left (t := S256x1024) (s₁ := S256x512) (s₂ := S256x512) 1 _ _ _ (ix2 r h) rfl (ix2 r (⟨h.val, hh⟩ : Fin 512))
      (fun b => match b with
        | ⟨0, _⟩ => rfl
        | ⟨1, _⟩ => rfl)).trans ?_
    show Ideal.ieee 8 23 (IntOp.shli .vector (x3 (ix2 r (⟨h.val, hh⟩ : Fin 512))) 16#32) = _
    rw [lo_half, ieee_widen, hx]
    rfl
  · rw [dif_neg hh]
    have hlt : h.val - 512 < 512 := by omega
    refine (concatenate_pair_apply_right (t := S256x1024) (s₁ := S256x512) (s₂ := S256x512) 1 _ _ _ (ix2 r h) rfl rfl (ix2 r (⟨h.val - 512, hlt⟩ : Fin 512))
      (fun b hb => match b, hb with
        | ⟨0, _⟩, _ => rfl
        | ⟨1, _⟩, hb => absurd rfl hb) (show (h.val - 512) + 512 = h.val by omega)).trans ?_
    show Ideal.ieee 8 23 (IntOp.andi (x3 (ix2 r (⟨h.val - 512, hlt⟩ : Fin 512))) 4294901760#32) = _
    rw [hi_half, ieee_widen, hx]
    rfl

/-- A block's products with a chunk of the first matrix. -/
def inner (x3 : IVec S256x512 32) (x4 : FVec Ideal S1x512x1024 .f32) : FVec Ideal S256x512 .f32 :=
  matmul dot_S256x1024_S512x1024_S256x512_1_1_0_0_n_n none (lanes x3)
    (truncf .bf16 (shapeCast S512x1024 x4 shapeCasts_S1x512x1024_S512x1024) bitsLt_bf16_f32) (constant S256x512 .f32 0x00000000#32)

theorem zero_bits : Ideal.ofBits .f32 0x00000000#32 = (0 : EReal) := by simp [Ideal.ofBits, Ideal.ieee]
theorem one_bits : Ideal.ofBits .f32 0x3F800000#32 = (1 : EReal) := by
  simp [Ideal.ofBits, Ideal.ieee, -EReal.coe_mul]; norm_num

theorem inner_apply (x3 : IVec S256x512 32) (x4 : FVec Ideal S1x512x1024 .f32) (r : Fin 256) (q : Fin 512) :
    inner x3 x4 (ix2 r q) = ∑ h : Fin 1024, lanes x3 (ix2 r h) * x4 (ix3 (0 : Fin 1) q h) := by
  have e := Ideal.matmul_transposedRhs_apply (M := 256) (K := 1024) (N := 512) none (lanes x3)
    (truncf .bf16 (shapeCast S512x1024 x4 shapeCasts_S1x512x1024_S512x1024) bitsLt_bf16_f32) (constant S256x512 .f32 0x00000000#32) r q
  simp only [ix2_eq] at e
  refine (show inner x3 x4 (ix2 r q) = _ from e).trans ?_
  rw [show (constant (F := Ideal) S256x512 .f32 0x00000000#32 (ix2 r q) : EReal) = 0 from zero_bits, zero_add]
  refine Finset.sum_congr rfl fun h _ => congrArg (lanes x3 (ix2 r h) * ·) ?_
  exact shapeCast_apply x4 _ _ (ix3 (0 : Fin 1) q h) (by
    rw [Shape.rowMajor_val_two, Shape.rowMajor_val_three]
    show (0 * 512 + q.val) * 1024 + h.val = q.val * 1024 + h.val
    omega)

/-- A chunk's gated, weighted entries. -/
def gate (x3 : IVec S256x512 32) (x4 x5 : FVec Ideal S1x512x1024 .f32) (x7 : FVec Ideal S256x1 .f32) : FVec Ideal S256x512 .f32 :=
  mulf (mulf (mulf (inner x3 x4) (divf (broadcast S256x512 (Scalar.ofBits .f32 0x3F800000#32)) (addf (broadcast S256x512 (Scalar.ofBits .f32 0x3F800000#32))
    (exp (subf (broadcast S256x512 (Scalar.ofBits .f32 0x00000000#32)) (inner x3 x4)))))) (inner x3 x5)) (broadcastTo S256x512 x7 broadcasts_S256x1_S256x512)

theorem gate_apply (x3 : IVec S256x512 32) (x4 x5 : FVec Ideal S1x512x1024 .f32) (x7 : FVec Ideal S256x1 .f32) (r : Fin 256) (q : Fin 512) :
    gate x3 x4 x5 x7 (ix2 r q) = gated (inner x3 x4 (ix2 r q)) (inner x3 x5 (ix2 r q)) (x7 (ix2 r (0 : Fin 1))) := by
  have es : broadcastTo S256x512 x7 broadcasts_S256x1_S256x512 (ix2 r q) = x7 (ix2 r (0 : Fin 1)) :=
    broadcastTo_apply x7 _ _ _ fun a => match a with
      | ⟨0, _⟩ => rfl
      | ⟨1, _⟩ => rfl
  show (inner x3 x4 (ix2 r q) * Ideal.div (Ideal.ofBits .f32 0x3F800000#32) (Ideal.ofBits .f32 0x3F800000#32
    + Ideal.exp (Ideal.ofBits .f32 0x00000000#32 - inner x3 x4 (ix2 r q))) * inner x3 x5 (ix2 r q)
    * broadcastTo S256x512 x7 broadcasts_S256x1_S256x512 (ix2 r q) : EReal) = _
  rw [es, one_bits, zero_bits, sub_eq_add_neg, zero_add]
  rfl

theorem prod_eq (x3 : IVec S256x512 32) (x4 x5 : FVec Ideal S1x512x1024 .f32) (x6 : FVec Ideal S1x1024x512 .f32) (x7 : FVec Ideal S256x1 .f32) :
    prod (F := Ideal) x3 x4 x5 x6 x7 = matmul dot_S256x512_S1024x512_S256x1024_1_1_0_0_n_n none (truncf .bf16 (gate x3 x4 x5 x7) bitsLt_bf16_f32)
      (truncf .bf16 (shapeCast S1024x512 x6 shapeCasts_S1x1024x512_S1024x512) bitsLt_bf16_f32) (constant S256x1024 .f32 0x00000000#32) := rfl

theorem prod_apply (x3 : IVec S256x512 32) (x4 x5 : FVec Ideal S1x512x1024 .f32) (x6 : FVec Ideal S1x1024x512 .f32) (x7 : FVec Ideal S256x1 .f32)
    (r : Fin 256) (j : Fin 1024) :
    prod (F := Ideal) x3 x4 x5 x6 x7 (ix2 r j) = ∑ q : Fin 512, gate x3 x4 x5 x7 (ix2 r q) * x6 (ix3 (0 : Fin 1) j q) := by
  rw [prod_eq]
  have e := Ideal.matmul_transposedRhs_apply (M := 256) (K := 512) (N := 1024) none (truncf .bf16 (gate x3 x4 x5 x7) bitsLt_bf16_f32)
    (truncf .bf16 (shapeCast S1024x512 x6 shapeCasts_S1x1024x512_S1024x512) bitsLt_bf16_f32) (constant S256x1024 .f32 0x00000000#32) r j
  simp only [ix2_eq] at e
  refine (show _ = _ from e).trans ?_
  rw [show (constant (F := Ideal) S256x1024 .f32 0x00000000#32 (ix2 r j) : EReal) = 0 from zero_bits, zero_add]
  refine Finset.sum_congr rfl fun q _ => congrArg (gate x3 x4 x5 x7 (ix2 r q) * ·) ?_
  exact shapeCast_apply x6 _ _ (ix3 (0 : Fin 1) j q) (by
    rw [Shape.rowMajor_val_two, Shape.rowMajor_val_three]
    show (0 * 1024 + j.val) * 512 + q.val = j.val * 512 + q.val
    omega)

/-! The blocks. -/

variable (c : Dev nD) (b : Fin 24) (hb : (wordOf (tabOf m c) b).toInt < 8)

theorem inner_gate (k : Fin 7) (r : Fin 256) (q : Fin 512) : inner (blkX m hO c (pt k b)) (blkG m hO c (pt k b)) (ix2 r q)
    = ∑ h : Fin 1024, unpacked (argX m c) (⟨256 * b.val + r.val, by omega⟩ : Fin 6144) h
        * argW m c (ix3 (expert m c b hb) (⟨512 * k.val + q.val, by omega⟩ : Fin 7168) h) := by
  rw [inner_apply]
  refine Finset.sum_congr rfl fun h _ => ?_
  rw [lanes_apply _ (argX m c) r (⟨256 * b.val + r.val, by omega⟩ : Fin 6144) (fun j => blkX_apply m hO c k b r j), blkG_apply m hO c k b hb]

theorem inner_up (k : Fin 7) (r : Fin 256) (q : Fin 512) : inner (blkX m hO c (pt k b)) (blkU m hO c (pt k b)) (ix2 r q)
    = ∑ h : Fin 1024, unpacked (argX m c) (⟨256 * b.val + r.val, by omega⟩ : Fin 6144) h
        * argW m c (ix3 (expert m c b hb) (⟨3584 + (512 * k.val + q.val), by omega⟩ : Fin 7168) h) := by
  rw [inner_apply]
  refine Finset.sum_congr rfl fun h _ => ?_
  rw [lanes_apply _ (argX m c) r (⟨256 * b.val + r.val, by omega⟩ : Fin 6144) (fun j => blkX_apply m hO c k b r j), blkU_apply m hO c k b hb]

theorem part_apply (k : Fin 7) (r : Fin 256) (j : Fin 1024) : part m hO c k b (ix2 r j)
    = ∑ q : Fin 512, hidden (argX m c) (argW m c) (argS m c) (expert m c b hb) (⟨256 * b.val + r.val, by omega⟩ : Fin 6144)
        (⟨512 * k.val + q.val, by omega⟩ : Fin 3584) * argV m c (ix3 (expert m c b hb) j (⟨512 * k.val + q.val, by omega⟩ : Fin 3584)) := by
  unfold part
  rw [prod_apply]
  refine Finset.sum_congr rfl fun q _ => ?_
  rw [gate_apply, inner_gate m hO c b hb, inner_up m hO c b hb, blkS_apply m hO c k b r 0, blkD_apply m hO c k b hb]
  rfl

theorem acc_apply (r : Fin 256) (j : Fin 1024) : ∀ (k : ℕ) (hk : k < 7), acc m hO c b k hk (ix2 r j)
    = ∑ i : Fin (k + 1), part m hO c ⟨i.val, by omega⟩ b (ix2 r j)
  | 0, hk => by rw [Fin.sum_univ_one]; rfl
  | k + 1, hk => by
    rw [Fin.sum_univ_castSucc]
    have e : acc m hO c b (k + 1) hk (ix2 r j) = acc m hO c b k (Nat.lt_of_succ_lt hk) (ix2 r j) + part m hO c ⟨k + 1, hk⟩ b (ix2 r j) := by
      refine congrArg (fun x : EReal => x + part m hO c ⟨k + 1, hk⟩ b (ix2 r j)) ?_
      exact shapeCast_apply _ _ _ (ix2 r j) rfl
    rw [e, acc_apply r j k]
    rfl

/-- A block's rows at the end. -/
theorem acc_last (r : Fin 256) (j : Fin 1024) : acc m hO c b 6 (by decide) (ix2 r j)
    = product (argX m c) (argW m c) (argV m c) (argS m c) (expert m c b hb) (⟨256 * b.val + r.val, by omega⟩ : Fin 6144) j := by
  rw [acc_apply]
  unfold product
  rw [sum_chunks]
  exact Finset.sum_congr rfl fun i _ => part_apply m hO c b hb i r j

/-- The kernel's result at a row of a block that has an expert. -/
theorem result_apply (G : Buf (Elt Ideal) ((c.tc : Thread nD τ).loc main_v0)) (h : (rdat m hO c).ArrAt 5 (cfgM m hO).N G) (hl : Live m c b)
    (r : Fin 256) (j : Fin 1024) : (G : FVec Ideal S6144x1024 .f32) (ix2 (⟨256 * b.val + r.val, by omega⟩ : Fin 6144) j)
    = product (argX m c) (argW m c) (argV m c) (argS m c) (expert m c b hb) (⟨256 * b.val + r.val, by omega⟩ : Fin 6144) j := by
  rw [← acc_last m hO c b hb r j, ← out_eq m hO c G h b hl]
  refine congrArg (G : FVec Ideal S6144x1024 .f32) (funext fun (a : Fin 2) => Fin.ext ?_)
  match a with
  | 0 => exact (show 256 * b.val + r.val = 256 * b.val + 1 * r.val by omega)
  | 1 => exact (show j.val = 0 + 1 * j.val by omega)

end Cert.ExpertsIdeal.Hand
-- ==== Proof.ExpertsReference.lean ====
/- The experts' products: the reference's result read entry by entry at the blocks that have an expert, and what the mask says of a row. -/
module

public import proofs.«01_k».proof.Proof.ExpertsTerm
public import proofs.«01_k».proof.Proof.Gen.ExpertsReferenceIdeal.Run
public import proofs.«01_k».proof.Proof.Gen.On_live_rows
public import Idealize.ShloMosaic.Lib.ReduceAll
public import Idealize.ShloMosaic.Lib.StackMember

@[expose] public section

set_option maxRecDepth 16384

noncomputable section

open scoped BigOperators

namespace Cert.Proof.Experts

open Idealize.ShloMosaic

section Batched

open Idealize.ShloMosaic.ValueIdx (contrEquiv1 contrEquiv1_symm_val)

variable {G M N : Nat}

/-- The product of two stacks over their last axes, member by member. -/
theorem dot_rows_apply {k : Nat} {φ₁ φ₂ : FTy}
    (w : DotDims.WF ⟨3, ![G, M, k]⟩ ⟨3, ![G, N, k]⟩ ⟨3, ![G, M, N]⟩ [2] [2] [1] [1] [0] [0])
    (prec : Option ContractPrecision) (A : FVec Ideal ⟨3, ![G, M, k]⟩ φ₁) (B : FVec Ideal ⟨3, ![G, N, k]⟩ φ₂)
    (g : Fin G) (a : Fin M) (b : Fin N) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, M, k]⟩ ⟨3, ![G, N, k]⟩ ⟨3, ![G, M, N]⟩) k rfl rfl c
  have l3 : (⟨[2], [2], [1], [1], [0], [0], w⟩ : DotDims ⟨3, ![G, M, k]⟩ ⟨3, ![G, N, k]⟩ ⟨3, ![G, M, N]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, M, k]⟩ ⟨3, ![G, N, k]⟩ ⟨3, ![G, M, N]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Batched

/-- Block `b` has expert `e`. -/
def Named (p : IVec Words 32) (b : Fin 24) (e : Fin 8) : Prop := (p (ix2 (0 : Fin 1) (⟨b.val, by omega⟩ : Fin 32))).toInt = e.val

section Reference

open Cert.ExpertsReferenceIdeal Cert.ExpertsReferenceIdeal.Gen

/-- The blocks' words. -/
def words (p : IVec S1x32 32) : IVec S24 32 := shapeCast _ (extractStridedSlice S1x24 ![0, 0] p slices_S1x32_S1x24_0_0) shapeCasts_S1x24_S24

theorem words_apply (p : IVec S1x32 32) (b : Fin 24) : words p (ix1 b) = p (ix2 (0 : Fin 1) (⟨b.val, by omega⟩ : Fin 32)) := by
  unfold words
  rw [shapeCast_apply _ _ (ix1 b) (ix2 (0 : Fin 1) b) (by
      rw [Shape.rowMajor_val_two, Shape.rowMajor_val_one]
      show 0 * 24 + b.val = b.val
      omega)]
  exact extractStridedSlice_apply _ _ _ _ _ fun a => match a with
    | 0 => rfl
    | 1 => (Nat.zero_add _).symm

/-- The words as the reference's take wraps them, a trailing axis added. -/
def wraps (p : IVec S1x32 32) : IVec S24x1 32 :=
  broadcastInDim S24x1 ![0] bcast_S24_S24x1_0
    (select (cmpi .slt (words p) (broadcastInDim S24 ![] bcast_S_S24 (constantI S_ 32 0#32))) (addi (words p) (broadcastInDim S24 ![] bcast_S_S24 (constantI S_ 32 8#32))) (words p))

theorem wraps_apply (p : IVec S1x32 32) (b : Fin 24) (e : Fin 8) (h : Named p b e) (u : Fin 1) :
    wraps p (ix2 b u) = p (ix2 (0 : Fin 1) (⟨b.val, by omega⟩ : Fin 32)) := by
  unfold wraps
  rw [broadcastInDim_apply _ _ _ _ (ix1 b) (fun a => match a with
    | 0 => rfl)]
  show (if IntOp.cmpi .slt (words p (ix1 b)) 0#32 = 1 then _ else words p (ix1 b)) = _
  rw [words_apply, if_neg]
  intro e1
  have := IntOp.cmpi_slt.mp e1
  unfold Named at h
  rw [h] at this
  have e0 : (0#32 : BitVec 32).toInt = 0 := by decide
  omega

/-- The reference's check of a block's word. -/
def checks (p : IVec S1x32 32) : IVec S24 1 :=
  Host.reduce IntOp.andi (andi (cmpi .sge (wraps p) (broadcastInDim S24x1 ![] bcast_S_S24x1 (constantI S_ 32 0#32)))
      (cmpi .sle (wraps p) (broadcastInDim S24x1 ![0, 1] bcast_S1x1_S24x1_0_1 (broadcastInDim S1x1 ![1] bcast_S1_S1x1_1 (constantI S1 32 7#32)))))
    (constantI S_ 1 1#1) reducesTo_S24x1_S24_d1 h_S_

theorem checks_apply (p : IVec S1x32 32) (b : Fin 24) (e : Fin 8) (h : Named p b e) : checks p (ix1 b) = 1#1 := by
  unfold checks
  rw [Host.reduce_eq_foldl]
  refine IntOp.foldl_andi_one _ _ _ rfl fun i hi => ?_
  have hd := of_decide_eq_true (List.mem_filter.mp hi).2
  obtain ⟨u, rfl⟩ : ∃ u : Fin 1, i = ix2 b u := by
    have e0 := congrArg Fin.val (congrFun hd 0)
    rw [Shape.ReducesTo.drop_apply_val_of_eq reducesTo_S24x1_S24_d1 i 0 0] at e0
    refine ⟨i 1, ?_⟩
    funext a
    match a with
    | ⟨0, _⟩ => exact Fin.ext e0
    | ⟨1, _⟩ => rfl
  show IntOp.andi (IntOp.cmpi .sge (wraps p (ix2 b u)) 0#32) (IntOp.cmpi .sle (wraps p (ix2 b u)) 7#32) = 1#1
  have ew := wraps_apply p b e h u
  unfold Named at h
  have e0 : (0#32 : BitVec 32).toInt = 0 := by decide
  have e1 : (7#32 : BitVec 32).toInt = 7 := by decide
  refine IntOp.andi_eq_one.mpr ⟨IntOp.cmpi_sge.mpr ?_, IntOp.cmpi_sle.mpr ?_⟩ <;> rw [ew, h] <;> omega

/-- The two gathers, entry by entry. -/
theorem gather_gate {α : Type} (x : S8x7168x1024.Idx → α) (idx : IVec S24x1 32) (b : Fin 24) (f : Fin 7168) (j : Fin 1024) :
    Host.gather gather_S8x7168x1024_S24x1_S24x7168x1024_12_0_n_n_0_1_171681024 x idx (ix3 b f j)
      = x (ix3 ⟨min (idx (ix2 b (0 : Fin 1))).toInt.toNat 7, by omega⟩ f j) := by
  unfold Host.gather
  refine congrArg x (funext fun a => Fin.ext ?_)
  generalize hd : gather_S8x7168x1024_S24x1_S24x7168x1024_12_0_n_n_0_1_171681024 = d
  show d.start (ix3 b f j) idx a + d.batchCoord (ix3 b f j) a + d.offCoord (ix3 b f j) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · have hk : (0 : Fin 3) ∉ d.sKept := fun h => ((d.mem_sKept 0).1 h).1 (by subst hd; exact List.mem_singleton.2 rfl)
    have hm : (0 : Fin 3) ∈ d.startIndexMap := by subst hd; exact List.mem_singleton.2 rfl
    rw [d.batchCoord_eq_zero _ _ (by subst hd; exact List.not_mem_nil), d.offCoord_eq_zero _ _ hk]
    simp only [Nat.add_zero]
    unfold GatherDims.start
    rw [dif_pos hm]
    have hsi : d.siIdx (ix3 b f j) ⟨d.startIndexMap.idxOf 0, List.idxOf_lt_length_iff.2 hm⟩ = ix2 b (0 : Fin 1) := by
      subst hd
      funext b; refine Fin.ext ?_
      match b with
      | ⟨0, _⟩ => rfl
      | ⟨1, _⟩ => rfl
    rw [hsi]
    subst hd
    rfl
  · have hk : (1 : Fin 3) ∈ d.sKept := (d.mem_sKept 1).2 (by subst hd; decide)
    have hm : (1 : Fin 3) ∉ d.startIndexMap := by subst hd; decide
    rw [d.batchCoord_eq_zero _ _ (by subst hd; exact List.not_mem_nil), Nat.add_zero]
    unfold GatherDims.start GatherDims.offCoord
    rw [dif_neg hm, dif_pos hk, Nat.zero_add]
    subst hd
    rfl
  · have hk : (2 : Fin 3) ∈ d.sKept := (d.mem_sKept 2).2 (by subst hd; decide)
    have hm : (2 : Fin 3) ∉ d.startIndexMap := by subst hd; decide
    rw [d.batchCoord_eq_zero _ _ (by subst hd; exact List.not_mem_nil), Nat.add_zero]
    unfold GatherDims.start GatherDims.offCoord
    rw [dif_neg hm, dif_pos hk, Nat.zero_add]
    subst hd
    rfl
theorem gather_down {α : Type} (x : S8x1024x3584.Idx → α) (idx : IVec S24x1 32) (b : Fin 24) (f : Fin 1024) (j : Fin 3584) :
    Host.gather gather_S8x1024x3584_S24x1_S24x1024x3584_12_0_n_n_0_1_110243584 x idx (ix3 b f j)
      = x (ix3 ⟨min (idx (ix2 b (0 : Fin 1))).toInt.toNat 7, by omega⟩ f j) := by
  unfold Host.gather
  refine congrArg x (funext fun a => Fin.ext ?_)
  generalize hd : gather_S8x1024x3584_S24x1_S24x1024x3584_12_0_n_n_0_1_110243584 = d
  show d.start (ix3 b f j) idx a + d.batchCoord (ix3 b f j) a + d.offCoord (ix3 b f j) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · have hk : (0 : Fin 3) ∉ d.sKept := fun h => ((d.mem_sKept 0).1 h).1 (by subst hd; exact List.mem_singleton.2 rfl)
    have hm : (0 : Fin 3) ∈ d.startIndexMap := by subst hd; exact List.mem_singleton.2 rfl
    rw [d.batchCoord_eq_zero _ _ (by subst hd; exact List.not_mem_nil), d.offCoord_eq_zero _ _ hk]
    simp only [Nat.add_zero]
    unfold GatherDims.start
    rw [dif_pos hm]
    have hsi : d.siIdx (ix3 b f j) ⟨d.startIndexMap.idxOf 0, List.idxOf_lt_length_iff.2 hm⟩ = ix2 b (0 : Fin 1) := by
      subst hd
      funext b; refine Fin.ext ?_
      match b with
      | ⟨0, _⟩ => rfl
      | ⟨1, _⟩ => rfl
    rw [hsi]
    subst hd
    rfl
  · have hk : (1 : Fin 3) ∈ d.sKept := (d.mem_sKept 1).2 (by subst hd; decide)
    have hm : (1 : Fin 3) ∉ d.startIndexMap := by subst hd; decide
    rw [d.batchCoord_eq_zero _ _ (by subst hd; exact List.not_mem_nil), Nat.add_zero]
    unfold GatherDims.start GatherDims.offCoord
    rw [dif_neg hm, dif_pos hk, Nat.zero_add]
    subst hd
    rfl
  · have hk : (2 : Fin 3) ∈ d.sKept := (d.mem_sKept 2).2 (by subst hd; decide)
    have hm : (2 : Fin 3) ∉ d.startIndexMap := by subst hd; decide
    rw [d.batchCoord_eq_zero _ _ (by subst hd; exact List.not_mem_nil), Nat.add_zero]
    unfold GatherDims.start GatherDims.offCoord
    rw [dif_neg hm, dif_pos hk, Nat.zero_add]
    subst hd
    rfl

/-- The blocks' first and second matrices, as taken. -/
def gates (w : FVec Ideal S8x7168x1024 .f32) (p : IVec S1x32 32) : FVec Ideal S24x7168x1024 .f32 :=
  select (broadcastInDim S24x7168x1024 ![0] bcast_S24_S24x7168x1024_0 (checks p))
    (Host.gather gather_S8x7168x1024_S24x1_S24x7168x1024_12_0_n_n_0_1_171681024 w (wraps p))
    (broadcastInDim S24x7168x1024 ![] bcast_S_S24x7168x1024 (constant S_ .f32 0x7FC00000#32))
def downs (v : FVec Ideal S8x1024x3584 .f32) (p : IVec S1x32 32) : FVec Ideal S24x1024x3584 .f32 :=
  select (broadcastInDim S24x1024x3584 ![0] bcast_S24_S24x1024x3584_0 (checks p))
    (Host.gather gather_S8x1024x3584_S24x1_S24x1024x3584_12_0_n_n_0_1_110243584 v (wraps p))
    (broadcastInDim S24x1024x3584 ![] bcast_S_S24x1024x3584 (constant S_ .f32 0x7FC00000#32))

theorem gates_apply (w : FVec Ideal S8x7168x1024 .f32) (p : IVec S1x32 32) (b : Fin 24) (e : Fin 8) (h : Named p b e) (f : Fin 7168) (j : Fin 1024) :
    gates w p (ix3 b f j) = w (ix3 e f j) := by
  unfold gates select
  rw [broadcastInDim_apply _ _ _ _ (ix1 b) (fun a => match a with
    | 0 => rfl), checks_apply p b e h]
  unfold Scalar.select
  rw [if_pos (show (1#1 : BitVec 1) = 1 from rfl), gather_gate]
  refine congrArg w (congrArg (fun r => ix3 r f j) (Fin.ext ?_))
  show min (wraps p (ix2 b (0 : Fin 1))).toInt.toNat 7 = _
  rw [wraps_apply p b e h]
  unfold Named at h
  rw [h]
  have := e.isLt
  omega
theorem downs_apply (v : FVec Ideal S8x1024x3584 .f32) (p : IVec S1x32 32) (b : Fin 24) (e : Fin 8) (h : Named p b e) (f : Fin 1024) (j : Fin 3584) :
    downs v p (ix3 b f j) = v (ix3 e f j) := by
  unfold downs select
  rw [broadcastInDim_apply _ _ _ _ (ix1 b) (fun a => match a with
    | 0 => rfl), checks_apply p b e h]
  unfold Scalar.select
  rw [if_pos (show (1#1 : BitVec 1) = 1 from rfl), gather_down]
  refine congrArg v (congrArg (fun r => ix3 r f j) (Fin.ext ?_))
  show min (wraps p (ix2 b (0 : Fin 1))).toInt.toNat 7 = _
  rw [wraps_apply p b e h]
  unfold Named at h
  rw [h]
  have := e.isLt
  omega

/-- The two half words of each word. -/
def halves (x : IVec S6144x512 32) : FVec Ideal S6144x512x2 .bf16 :=
  bitcastToFloat (F := Ideal) .bf16 (Host.bitcastConvertNarrow S6144x512x2 16 x splits_S6144x512_w32_S6144x512x2_w16)

theorem halves_apply (x : IVec S6144x512 32) (r : Fin 6144) (j : Fin 512) (k : Fin 2) :
    halves x (ix3 r j k) = Ideal.ofBits .bf16 ((x (ix2 r j)).extractLsb' (k.val * 16) 16) := by
  show Ideal.ofBits .bf16 (Host.bitcastConvertNarrow S6144x512x2 16 x splits_S6144x512_w32_S6144x512x2_w16 (ix3 r j k)) = _
  have ed : splits_S6144x512_w32_S6144x512x2_w16.drop (ix3 r j k) = ix2 r j := funext fun a => match a with
    | ⟨0, _⟩ => rfl
    | ⟨1, _⟩ => rfl
  rw [← ed]
  rfl

def lows (x : IVec S6144x512 32) : FVec Ideal S6144x512 .bf16 :=
  shapeCast _ (extractStridedSlice S6144x512x1 ![0, 0, 0] (halves x) slices_S6144x512x2_S6144x512x1_0_0_0) shapeCasts_S6144x512x1_S6144x512
def highs (x : IVec S6144x512 32) : FVec Ideal S6144x512 .bf16 :=
  shapeCast _ (extractStridedSlice S6144x512x1 ![0, 0, 1] (halves x) slices_S6144x512x2_S6144x512x1_0_0_1) shapeCasts_S6144x512x1_S6144x512

theorem lows_apply (x : IVec S6144x512 32) (r : Fin 6144) (j : Fin 512) :
    lows x (ix2 r j) = Ideal.ofBits .bf16 ((x (ix2 r j)).extractLsb' 0 16) := by
  unfold lows
  rw [shapeCast_apply _ _ (ix2 r j) (ix3 r j (0 : Fin 1)) (by
      rw [Shape.rowMajor_val_two, Shape.rowMajor_val_three]
      show (r.val * 512 + j.val) * 1 + 0 = r.val * 512 + j.val
      omega)]
  exact (extractStridedSlice_apply _ _ _ _ (ix3 r j (0 : Fin 2)) fun a => match a with
    | 0 => (Nat.zero_add _).symm
    | 1 => (Nat.zero_add _).symm
    | 2 => rfl).trans (halves_apply x r j 0)
theorem highs_apply (x : IVec S6144x512 32) (r : Fin 6144) (j : Fin 512) :
    highs x (ix2 r j) = Ideal.ofBits .bf16 ((x (ix2 r j)).extractLsb' 16 16) := by
  unfold highs
  rw [shapeCast_apply _ _ (ix2 r j) (ix3 r j (0 : Fin 1)) (by
      rw [Shape.rowMajor_val_two, Shape.rowMajor_val_three]
      show (r.val * 512 + j.val) * 1 + 0 = r.val * 512 + j.val
      omega)]
  exact (extractStridedSlice_apply _ _ _ _ (ix3 r j (1 : Fin 2)) fun a => match a with
    | 0 => (Nat.zero_add _).symm
    | 1 => (Nat.zero_add _).symm
    | 2 => rfl).trans (halves_apply x r j 1)

/-- The rows, block by block. -/
def blocks (x : IVec S6144x512 32) : FVec Ideal S24x256x1024 .f32 :=
  shapeCast _ (extf .f32 (concatenate S6144x1024 1 [⟨S6144x512, lows x⟩, ⟨S6144x512, highs x⟩] concatenates_S6144x512_S6144x512_S6144x1024_d1) bitsLt_bf16_f32)
    shapeCasts_S6144x1024_S24x256x1024

theorem blocks_apply (x : IVec S6144x512 32) (b : Fin 24) (r : Fin 256) (h : Fin 1024) :
    blocks x (ix3 b r h) = unpacked x (⟨256 * b.val + r.val, by omega⟩ : Fin 6144) h := by
  unfold blocks unpacked
  rw [shapeCast_apply _ _ (ix3 b r h) (ix2 (⟨256 * b.val + r.val, by omega⟩ : Fin 6144) h) (by
      rw [Shape.rowMajor_val_two, Shape.rowMajor_val_three]
      show (256 * b.val + r.val) * 1024 + h.val = (b.val * 256 + r.val) * 1024 + h.val
      omega)]
  generalize (⟨256 * b.val + r.val, by omega⟩ : Fin 6144) = R
  rw [show ∀ v : FVec Ideal S6144x1024 .bf16, extf .f32 v bitsLt_bf16_f32 (ix2 R h) = v (ix2 R h) from fun _ => rfl]
  by_cases hh : h.val < 512
  · rw [dif_pos hh]
    exact (concatenate_pair_apply_left (t := S6144x1024) (s₁ := S6144x512) (s₂ := S6144x512) 1 _ _ _ (ix2 R h) rfl (ix2 R (⟨h.val, hh⟩ : Fin 512))
      (fun b => match b with
        | ⟨0, _⟩ => rfl
        | ⟨1, _⟩ => rfl)).trans (lows_apply x R _)
  · rw [dif_neg hh]
    have hlt : h.val - 512 < 512 := by omega
    exact (concatenate_pair_apply_right (t := S6144x1024) (s₁ := S6144x512) (s₂ := S6144x512) 1 _ _ _ (ix2 R h) rfl rfl (ix2 R (⟨h.val - 512, hlt⟩ : Fin 512))
      (fun b hb => match b, hb with
        | ⟨0, _⟩, _ => rfl
        | ⟨1, _⟩, hb => absurd rfl hb) (show (h.val - 512) + 512 = h.val by omega)).trans (highs_apply x R _)

/-- The rows' products with their blocks' first matrices. -/
def firsts (x : IVec S6144x512 32) (w : FVec Ideal S8x7168x1024 .f32) (p : IVec S1x32 32) : FVec Ideal S24x256x7168 .f32 :=
  Host.dotGeneral dot_S24x256x1024_S24x7168x1024_S24x256x7168_2_2_1_1_0_0 none (blocks x) (gates w p)

theorem firsts_apply (x : IVec S6144x512 32) (w : FVec Ideal S8x7168x1024 .f32) (p : IVec S1x32 32) (b : Fin 24) (e : Fin 8) (h : Named p b e)
    (r : Fin 256) (f : Fin 7168) :
    firsts x w p (ix3 b r f) = ∑ j : Fin 1024, unpacked x (⟨256 * b.val + r.val, by omega⟩ : Fin 6144) j * w (ix3 e f j) := by
  unfold firsts
  refine (dot_rows_apply (G := 24) (M := 256) (N := 7168) (k := 1024) _ none (blocks x) (gates w p) b r f).trans ?_
  exact Finset.sum_congr rfl fun j _ => by rw [blocks_apply, gates_apply w p b e h]

/-- The gated, weighted entries. -/
def acts (x : IVec S6144x512 32) (w : FVec Ideal S8x7168x1024 .f32) (s : FVec Ideal S6144x1 .f32) (p : IVec S1x32 32) : FVec Ideal S24x256x3584 .f32 :=
  mulf (mulf (mulf (extractStridedSlice S24x256x3584 ![0, 0, 0] (firsts x w p) slices_S24x256x7168_S24x256x3584_0_0_0)
      (Host.divf (broadcastInDim S24x256x3584 ![] bcast_S_S24x256x3584 (constant S_ .f32 0x3F800000#32))
        (addf (broadcastInDim S24x256x3584 ![] bcast_S_S24x256x3584 (constant S_ .f32 0x3F800000#32))
          (Host.exp (Host.negf (extractStridedSlice S24x256x3584 ![0, 0, 0] (firsts x w p) slices_S24x256x7168_S24x256x3584_0_0_0))))))
      (extractStridedSlice S24x256x3584 ![0, 0, 3584] (firsts x w p) slices_S24x256x7168_S24x256x3584_0_0_3584))
    (broadcastInDim S24x256x3584 ![0, 1, 2] bcast_S24x256x1_S24x256x3584_0_1_2 (shapeCast _ s shapeCasts_S6144x1_S24x256x1))

theorem gate_apply (A : FVec Ideal S24x256x7168 .f32) (b : Fin 24) (r : Fin 256) (f : Fin 3584) :
    extractStridedSlice S24x256x3584 ![0, 0, 0] A slices_S24x256x7168_S24x256x3584_0_0_0 (ix3 b r f) = A (ix3 b r (⟨f.val, by omega⟩ : Fin 7168)) :=
  extractStridedSlice_apply _ _ _ _ _ fun a => match a with
    | 0 => (Nat.zero_add _).symm
    | 1 => (Nat.zero_add _).symm
    | 2 => (Nat.zero_add _).symm
theorem up_apply (A : FVec Ideal S24x256x7168 .f32) (b : Fin 24) (r : Fin 256) (f : Fin 3584) :
    extractStridedSlice S24x256x3584 ![0, 0, 3584] A slices_S24x256x7168_S24x256x3584_0_0_3584 (ix3 b r f) = A (ix3 b r (⟨3584 + f.val, by omega⟩ : Fin 7168)) :=
  extractStridedSlice_apply _ _ _ _ _ fun a => match a with
    | 0 => (Nat.zero_add _).symm
    | 1 => (Nat.zero_add _).symm
    | 2 => rfl

theorem scale_apply (s : FVec Ideal S6144x1 .f32) (b : Fin 24) (r : Fin 256) (f : Fin 3584) :
    broadcastInDim S24x256x3584 ![0, 1, 2] bcast_S24x256x1_S24x256x3584_0_1_2 (shapeCast _ s shapeCasts_S6144x1_S24x256x1) (ix3 b r f)
      = s (ix2 (⟨256 * b.val + r.val, by omega⟩ : Fin 6144) (0 : Fin 1)) := by
  rw [broadcastInDim_apply _ _ _ _ (ix3 b r (0 : Fin 1)) (fun a => match a with
    | 0 => rfl
    | 1 => rfl
    | 2 => rfl)]
  exact shapeCast_apply _ _ _ _ (by
      rw [Shape.rowMajor_val_two, Shape.rowMajor_val_three]
      show (256 * b.val + r.val) * 1 + 0 = (b.val * 256 + r.val) * 1 + 0
      omega)

theorem unit_bits : (FloatOps.ofBits (F := Ideal) .f32 0x3F800000#32 : EReal) = 1 := by
  show Ideal.ofBits .f32 0x3F800000#32 = 1
  simp [Ideal.ofBits, Ideal.ieee, -EReal.coe_add, -EReal.coe_mul]
  norm_num [zpow_neg]

theorem acts_apply (x : IVec S6144x512 32) (w : FVec Ideal S8x7168x1024 .f32) (s : FVec Ideal S6144x1 .f32) (p : IVec S1x32 32) (b : Fin 24) (e : Fin 8)
    (h : Named p b e) (r : Fin 256) (f : Fin 3584) :
    acts x w s p (ix3 b r f) = hidden x w s e (⟨256 * b.val + r.val, by omega⟩ : Fin 6144) f := by
  unfold hidden gated
  rw [← firsts_apply x w p b e h r, ← firsts_apply x w p b e h r, ← scale_apply s b r f, ← gate_apply (firsts x w p) b r f, ← up_apply (firsts x w p) b r f, ← unit_bits]
  rfl

/-- The reference's result. -/
def seconds (x : IVec S6144x512 32) (w : FVec Ideal S8x7168x1024 .f32) (v : FVec Ideal S8x1024x3584 .f32) (s : FVec Ideal S6144x1 .f32) (p : IVec S1x32 32) :
    FVec Ideal S6144x1024 .f32 :=
  shapeCast _ (Host.dotGeneral dot_S24x256x3584_S24x1024x3584_S24x256x1024_2_2_1_1_0_0 none (acts x w s p) (downs v p)) shapeCasts_S24x256x1024_S6144x1024

/-- The reference's result at a row of a block that has an expert. -/
theorem seconds_apply (x : IVec S6144x512 32) (w : FVec Ideal S8x7168x1024 .f32) (v : FVec Ideal S8x1024x3584 .f32) (s : FVec Ideal S6144x1 .f32)
    (p : IVec S1x32 32) (b : Fin 24) (e : Fin 8) (h : Named p b e) (r : Fin 256) (j : Fin 1024) :
    seconds x w v s p (ix2 (⟨256 * b.val + r.val, by omega⟩ : Fin 6144) j) = product x w v s e (⟨256 * b.val + r.val, by omega⟩ : Fin 6144) j := by
  unfold seconds product
  rw [shapeCast_apply _ _ (ix2 (⟨256 * b.val + r.val, by omega⟩ : Fin 6144) j) (ix3 b r j) (by
      rw [Shape.rowMajor_val_two, Shape.rowMajor_val_three]
      show (b.val * 256 + r.val) * 1024 + j.val = (256 * b.val + r.val) * 1024 + j.val
      omega)]
  refine (dot_rows_apply (G := 24) (M := 256) (N := 1024) (k := 3584) _ none (acts x w s p) (downs v p) b r j).trans ?_
  exact Finset.sum_congr rfl fun f _ => by rw [acts_apply x w s p b e h, downs_apply v p b e h]

theorem reference_value (m : (ℓ : Loc nD τ sig) → Buf (Elt Ideal) ℓ) (c : Dev nD) :
    Value.res_main_v21 m c = seconds (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v21
  rfl

end Reference

section Mask

open Cert.On_live_rows Cert.On_live_rows.Facts

/-- A row the mask keeps is a row of a block whose word is not negative. -/
theorem live_of_mask (x : IVec S6144x512 32) (w : FVec Ideal S8x7168x1024 .f32) (v : FVec Ideal S8x1024x3584 .f32) (s : FVec Ideal S6144x1 .f32)
    (p : IVec S1x32 32) (b : Fin 24) (r : Fin 256) (j : Fin 1024)
    (h : Cert.On_live_rows.fn (F := Ideal) x w v s p (ix2 (⟨256 * b.val + r.val, by omega⟩ : Fin 6144) j) = 1#1) :
    0 ≤ (p (ix2 (0 : Fin 1) (⟨b.val, by omega⟩ : Fin 32))).toInt := by
  unfold Cert.On_live_rows.fn at h
  dsimp only at h
  rw [shapeCast_apply _ _ (ix2 (⟨256 * b.val + r.val, by omega⟩ : Fin 6144) j) (ix3 b r j) (by
      rw [Shape.rowMajor_val_two, Shape.rowMajor_val_three]
      show (b.val * 256 + r.val) * 1024 + j.val = (256 * b.val + r.val) * 1024 + j.val
      omega),
    broadcastInDim_apply _ _ _ _ (ix3 b (0 : Fin 1) (0 : Fin 1)) (fun a => match a with
      | 0 => rfl
      | 1 => rfl
      | 2 => rfl)] at h
  have h1 := IntOp.cmpi_sge.mp (show IntOp.cmpi .sge (broadcastInDim S24x1x1 ![0] bcast_S24_S24x1x1_0
    (shapeCast S24 (extractStridedSlice S1x24 ![0, 0] p slices_S1x32_S1x24_0_0) shapeCasts_S1x24_S24) (ix3 b (0 : Fin 1) (0 : Fin 1))) 0#32 = 1#1 from h)
  rw [broadcastInDim_apply _ _ _ _ (ix1 b) (fun a => match a with
      | 0 => rfl),
    shapeCast_apply _ _ (ix1 b) (ix2 (0 : Fin 1) b) (by
      rw [Shape.rowMajor_val_two, Shape.rowMajor_val_one]
      show 0 * 24 + b.val = b.val
      omega),
    extractStridedSlice_apply _ _ _ _ (ix2 (0 : Fin 1) (⟨b.val, by omega⟩ : Fin 32)) (fun a => match a with
    | 0 => rfl
    | 1 => (Nat.zero_add _).symm)] at h1
  have e0 : (0#32 : BitVec 32).toInt = 0 := by decide
  omega

end Mask

end Cert.Proof.Experts
-- ==== Proof.lean ====
/-
  The certificate: the frames of the kernel and its reference, and the equality of their results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import proofs.«01_k».proof.Proof.Routing
public import proofs.«01_k».proof.Proof.WordExpertsRun
public import proofs.«01_k».proof.Proof.ExpertsValue
public import proofs.«01_k».proof.Proof.ExpertsReference
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_in_experts
public import proofs.«01_k».proof.Proof.Gen.On_live_rows
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterReferenceIdeal
public import proofs.«01_k».proof.Proof.Gen.RouterReferenceIdeal.Run
public import proofs.«01_k».proof.Proof.Gen.Pre_in_rows
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem Cert.Kernel

open Combine

/-- The kernel's frame. -/
theorem frame_kernel : Cert.quiescent_Kernel (hKernel := Cert.Kernel.Gen.facts) (hPre_in_rows := Cert.Pre_in_rows.Gen.facts) := fun m g hpre =>
  (θ_run (Cert.Kernel.defs (F := Bits)) _ _).mono (fun _ h => ⟨fun c => ⟨(h.1 c).2.1, (h.1 c).2.2⟩, h.2⟩)
    (run_main (F := Bits) m g (preOK_of_pairs m fun d => pairsOK_of_pre _ _ (hpre d)))

/-- The idealized kernel's frame. -/
theorem frame_ideal : Cert.quiescent_KernelIdeal (hKernelIdeal := Cert.KernelIdeal.Gen.facts) (hPre_in_rows := Cert.Pre_in_rows.Gen.facts) := fun m g hpre =>
  (θ_run (Cert.KernelIdeal.defs (F := Ideal)) _ _).mono (fun _ h => ⟨fun c => ⟨(h.1 c).2.1, (h.1 c).2.2⟩, h.2⟩)
    (run_main (F := Ideal) m g (preOK_of_pairs m fun d => pairsOK_of_pre _ _ (hpre d)))

/-- The reference's frame. -/
theorem frame_reference : Cert.quiescent_ReferenceIdeal (hReferenceIdeal := Cert.ReferenceIdeal.Gen.facts) := fun m g _ =>
  (θ_run (Cert.ReferenceIdeal.defs (F := Ideal)) _ _).mono (fun _ h => ⟨fun c => (h c).2, funext fun s => nomatch s⟩)
    (Cert.ReferenceIdeal.Value.run m g)

/-- The kernel's result is the reference's. -/
theorem values : Cert.algebraic_KernelIdeal_ReferenceIdeal (hKernelIdeal := Cert.KernelIdeal.Gen.facts)
    (hReferenceIdeal := Cert.ReferenceIdeal.Gen.facts) (hPre_in_rows := Cert.Pre_in_rows.Gen.facts) := by
  intro m g m' g' hpre hargs
  have hp : ∀ d, PairsOK (m (posLoc d)) := fun d => pairsOK_of_pre _ _ (hpre d)
  refine ⟨fun c => sumsOf m c, (θ_run (Cert.KernelIdeal.defs (F := Ideal)) _ _).mono (fun _ h c => h.1 c) (run_main (F := Ideal) m g (preOK_of_pairs m hp)),
    (θ_run (Cert.ReferenceIdeal.defs (F := Ideal)) _ _).mono (fun r h c => ⟨(h c).1.trans ?_, (h c).2⟩) (Cert.ReferenceIdeal.Value.run m' g')⟩
  obtain ⟨e0, e1⟩ := hargs c
  rw [e0, e1]
  funext y
  exact (reference_apply (m (rowsLoc c)) (m (posLoc c)) (hp c) y).trans (sumsOf_apply m c (hp c) y).symm

/-- The router's reference's frame. -/
theorem frame_router_reference : Cert.quiescent_RouterReferenceIdeal (hRouterReferenceIdeal := Cert.RouterReferenceIdeal.Gen.facts) := fun m g _ =>
  (θ_run (Cert.RouterReferenceIdeal.defs (F := Ideal)) _ _).mono (fun _ h => ⟨fun c => (h c).2, funext fun s => nomatch s⟩)
    (Cert.RouterReferenceIdeal.Value.run m g)

/-- The words the router packs are read as the two halves they hold. -/
theorem packed : Cert.preserves_Router_RouterIdeal :=
  ⟨IdealRules.bf16_pair.bufferStatement _ _, IdealRules.bf16_pair.statement _ _, IdealRules.bf16_pack.statement _⟩

/-- The router's weights are the reference's. -/
theorem routes : Cert.algebraic_RouterIdeal_RouterReferenceIdeal (hRouterIdeal := Cert.RouterIdeal.Gen.facts)
    (hRouterReferenceIdeal := Cert.RouterReferenceIdeal.Gen.facts) := by
  intro m g m' g' _ hargs
  refine ⟨_, (θ_run (Cert.RouterIdeal.defs (F := Ideal)) _ _).mono (fun _ h c => ⟨(h c).1, (h c).2.2.2.2⟩) (Cert.RouterIdeal.Value.run m g),
    (θ_run (Cert.RouterReferenceIdeal.defs (F := Ideal)) _ _).mono (fun r h c => ⟨(h c).1.trans ?_, (h c).2⟩) (Cert.RouterReferenceIdeal.Value.run m' g')⟩
  obtain ⟨e0, e1⟩ := hargs c
  rw [e0, e1]
  exact Routing.weights_agree _ _

/-- The experts' frame. -/
theorem frame_experts : Cert.quiescent_Experts (hExperts := Cert.Experts.Gen.facts) (hPre_in_experts := Cert.Pre_in_experts.Gen.facts) := fun m g hpre =>
  (θ_run (Cert.Experts.defs (F := Bits)) _ _).mono (fun _ h => ⟨fun c => (h.1 c).2, h.2⟩)
    (Cert.Experts.Hand.run_frame (F := Bits) m g (Cert.Experts.Hand.ok_of_words m (Cert.Experts.Hand.words_of_pre (F := Bits) _ _ _ _ _ (hpre 0))))

/-- The idealized experts' frame. -/
theorem frame_experts_ideal : Cert.quiescent_ExpertsIdeal (hExpertsIdeal := Cert.ExpertsIdeal.Gen.facts)
    (hPre_in_experts := Cert.Pre_in_experts.Gen.facts) := fun m g hpre =>
  (θ_run (Cert.ExpertsIdeal.defs (F := Ideal)) _ _).mono (fun _ h => ⟨fun c => (h.1 c).2, h.2⟩)
    (Cert.ExpertsIdeal.Hand.run_frame (F := Ideal) m g (Cert.ExpertsIdeal.Hand.ok_of_words m (Cert.ExpertsIdeal.Hand.words_of_pre (F := Ideal) _ _ _ _ _ (hpre 0))))

/-- The experts' reference's frame. -/
theorem frame_experts_reference : Cert.quiescent_ExpertsReferenceIdeal (hExpertsReferenceIdeal := Cert.ExpertsReferenceIdeal.Gen.facts) := fun m g _ =>
  (θ_run (Cert.ExpertsReferenceIdeal.defs (F := Ideal)) _ _).mono (fun _ h => ⟨fun c => (h c).2, funext fun s => nomatch s⟩)
    (Cert.ExpertsReferenceIdeal.Value.run m g)

/-- The experts' products are the reference's, at the rows of the blocks that have an expert. -/
theorem products : Cert.algebraic_ExpertsIdeal_ExpertsReferenceIdeal_on_live_rows (hExpertsIdeal := Cert.ExpertsIdeal.Gen.facts)
    (hExpertsReferenceIdeal := Cert.ExpertsReferenceIdeal.Gen.facts) (hPre_in_experts := Cert.Pre_in_experts.Gen.facts)
    (hOn_live_rows := Cert.On_live_rows.Gen.facts) := by
  intro m g m' g' hpre hargs
  have hw : ∀ c b, (Cert.ExpertsIdeal.Hand.wordOf (Cert.ExpertsIdeal.Hand.tabOf m c) b).toInt < 8 := fun c b =>
    Cert.ExpertsIdeal.Hand.words_of_pre (F := Ideal) _ _ _ _ _ (hpre c) b
  have hO := Cert.ExpertsIdeal.Hand.ok_of_words m (hw 0)
  refine ⟨fun c => Cert.ExpertsReferenceIdeal.Value.res_main_v21 m' c,
    (θ_run (Cert.ExpertsIdeal.defs (F := Ideal)) _ _).mono (fun r h c => ⟨fun i hi => ?_, (h.1 c).2⟩)
      (Cert.ExpertsIdeal.Hand.run_frame (F := Ideal) m g hO),
    (θ_run (Cert.ExpertsReferenceIdeal.defs (F := Ideal)) _ _).mono (fun r h c => ⟨fun i _ => congrFun (h c).1 i, (h c).2⟩)
      (Cert.ExpertsReferenceIdeal.Value.run m' g')⟩
  obtain ⟨b, q, j, rfl⟩ : ∃ (b : Fin 24) (q : Fin 256) (j : Fin 1024), i = ix2 (⟨256 * b.val + q.val, by omega⟩ : Fin 6144) j := by
    have h0 : (i 0).val < 6144 := (i 0).isLt
    refine ⟨⟨(i 0).val / 256, by omega⟩, ⟨(i 0).val % 256, by omega⟩, i 1, funext fun a => ?_⟩
    match a with
    | ⟨0, _⟩ => exact Fin.ext (show (i 0).val = 256 * ((i 0).val / 256) + (i 0).val % 256 by omega)
    | ⟨1, _⟩ => rfl
  have hl := Experts.live_of_mask _ _ _ _ _ b q j hi
  have hv := Cert.ExpertsIdeal.Hand.result_apply m hO c b (hw c b) _ (h.1 c).1 hl q j
  refine hv.trans ?_
  show _ = Cert.ExpertsReferenceIdeal.Value.res_main_v21 m' c _
  obtain ⟨e0, e1, e2, e3, e4⟩ := hargs c
  rw [Experts.reference_value, e0, e1, e2, e3, e4]
  refine (Experts.seconds_apply _ _ _ _ _ b (Cert.ExpertsIdeal.Hand.expert m c b (hw c b)) ?_ q j).symm
  exact (Int.toNat_of_nonneg hl).symm.trans (congrArg Nat.cast (Cert.ExpertsIdeal.Hand.expertOf_eq _).symm)

theorem claim : Cert.Claim := ⟨Cert.Kernel.Gen.facts, Cert.KernelIdeal.Gen.facts, Cert.ReferenceIdeal.Gen.facts, Cert.Experts.Gen.facts,
  Cert.ExpertsIdeal.Gen.facts, Cert.ExpertsReferenceIdeal.Gen.facts, Cert.Router.Gen.facts, Cert.RouterIdeal.Gen.facts,
  Cert.RouterReferenceIdeal.Gen.facts, Cert.Pre_in_rows.Gen.facts, Cert.Pre_in_experts.Gen.facts, Cert.On_live_rows.Gen.facts,
  frame_kernel, frame_ideal, frame_reference, fun m g _ => frame_reference m g trivial,
  frame_experts, frame_experts_ideal, frame_experts_reference, fun m g _ => frame_experts_reference m g trivial,
  fun m ρ _ => Cert.Router.Gen.frame m ρ, fun m ρ _ => Cert.RouterIdeal.Gen.frame m ρ,
  frame_router_reference, trivial, values, trivial, products, packed, routes⟩

end Cert.Proof

end
